-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4096 : Shape := ⟨1, ![4096]⟩
abbrev S100000x128 : Shape := ⟨2, ![100000, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : IVec S4096 32) (main_arg2 : FVec F S100000x128 .f32) (main_arg3 : FVec F S100000x128 .f32) (main_arg4 : FVec F S256x512 .f32) (main_arg5 : FVec F S512 .f32) (main_arg6 : FVec F S512x256 .f32) (main_arg7 : FVec F S256 .f32) (main_arg8 : FVec F S256x128 .f32) (main_arg9 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 100000#32
  let main_v3 : IVec S4096 32 := broadcastInDim S4096 ![] bcast_S_S4096 main_c_1
  let main_v4 : IVec S4096 1 := cmpi .slt main_arg0 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_c_3 : IVec S_ 32 := constantI S_ 32 0#32
  let main_v7 : IVec S4096 32 := broadcastInDim S4096 ![] bcast_S_S4096 main_c_3
  let main_v8 : IVec S4096 1 := cmpi .sge main_arg1 main_v7
  let main_c_4 : IVec S_ 1 := constantI S_ 1 1#1
  let main_v9 : IVec S_ 1 := (fun x v => Host.reduce IntOp.andi x v reducesTo_S4096_S_d0 h_S_) main_v8 main_c_4
  let main_v10 : IVec S_ 1 := andi main_v6 main_v9
  let main_c_5 : IVec S_ 32 := constantI S_ 32 100000#32
  let main_v11 : IVec S4096 32 := broadcastInDim S4096 ![] bcast_S_S4096 main_c_5
  let main_v12 : IVec S4096 1 := cmpi .slt main_arg1 main_v11
  let main_c_6 : IVec S_ 1 := constantI S_ 1 1#1
  let main_v13 : IVec S_ 1 := (fun x v => Host.reduce IntOp.andi x v reducesTo_S4096_S_d0 h_S_) main_v12 main_c_6
  let main_v14 : IVec S_ 1 := andi main_v10 main_v13
  main_v14
-- ==== Kernel.lean ====
abbrev S4096 : Shape := ⟨1, ![4096]⟩
abbrev S100000x128 : Shape := ⟨2, ![100000, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x512 : Shape := ⟨2, ![1, 512]⟩
abbrev S1x256 : Shape := ⟨2, ![1, 256]⟩
abbrev S1x128 : Shape := ⟨2, ![1, 128]⟩
abbrev S4096x128 : Shape := ⟨2, ![4096, 128]⟩
abbrev S128x128 : Shape := ⟨2, ![128, 128]⟩
abbrev S_ : Shape := ⟨0, ![]⟩
abbrev S2048x128 : Shape := ⟨2, ![2048, 128]⟩
abbrev S128x512 : Shape := ⟨2, ![128, 512]⟩
abbrev S2048x512 : Shape := ⟨2, ![2048, 512]⟩
abbrev S2048x256 : Shape := ⟨2, ![2048, 256]⟩

abbrev nBuf : Table → Nat
  | .hbm => 16
  | .local .tc .vmem => 12
  | .local .scVector .vmem => 4
  | _ => 0

abbrev bufTy : (tb : Table) → Fin (nBuf tb) → BufTy
  | .hbm, ⟨0, _⟩ => ⟨S4096, .i32⟩
  | .hbm, ⟨1, _⟩ => ⟨S4096, .i32⟩
  | .hbm, ⟨2, _⟩ => ⟨S100000x128, .f32⟩
  | .hbm, ⟨3, _⟩ => ⟨S100000x128, .f32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S1x512, .f32⟩
  | .hbm, ⟨11, _⟩ => ⟨S1x256, .f32⟩
  | .hbm, ⟨12, _⟩ => ⟨S1x128, .f32⟩
  | .hbm, ⟨13, _⟩ => ⟨S4096x128, .f32⟩
  | .hbm, ⟨14, _⟩ => ⟨S4096x128, .f32⟩
  | .hbm, ⟨15, _⟩ => ⟨S4096x128, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S256x512, .f32⟩
  | .local .tc .vmem, ⟨5, _⟩ => ⟨S1x512, .f32⟩
  | .local .tc .vmem, ⟨6, _⟩ => ⟨S512x256, .f32⟩
  | .local .tc .vmem, ⟨7, _⟩ => ⟨S1x256, .f32⟩
  | .local .tc .vmem, ⟨8, _⟩ => ⟨S256x128, .f32⟩
  | .local .tc .vmem, ⟨9, _⟩ => ⟨S1x128, .f32⟩
  | .local .tc .vmem, ⟨10, _⟩ => ⟨S2048x128, .f32⟩
  | .local .tc .vmem, ⟨11, _⟩ => ⟨S2048x128, .f32⟩
  | .local .scVector .vmem, ⟨0, _⟩ => ⟨S128, .i32⟩
  | .local .scVector .vmem, ⟨1, _⟩ => ⟨S128x128, .f32⟩
  | .local .scVector .vmem, ⟨2, _⟩ => ⟨S128, .i32⟩
  | .local .scVector .vmem, ⟨3, _⟩ => ⟨S128x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_arg2_scv : Ref sig .scVector := ⟨.hbm, 2, rfl⟩
abbrev main_arg3_scv : Ref sig .scVector := ⟨.hbm, 3, rfl⟩
abbrev main_arg0_scv : Ref sig .scVector := ⟨.hbm, 0, rfl⟩
abbrev main_arg1_scv : Ref sig .scVector := ⟨.hbm, 1, rfl⟩
abbrev main_v3_0_scv : Ref sig .scVector := ⟨.hbm, 13, rfl⟩
abbrev main_v3_1_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg8_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  ![v2.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S100000x128 : Shape := ⟨2, ![100000, 128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S4096x256 : Shape := ⟨2, ![4096, 256]⟩
abbrev S4096x512 : Shape := ⟨2, ![4096, 512]⟩
abbrev S1x512 : Shape := ⟨2, ![1, 512]⟩
abbrev S1x256 : Shape := ⟨2, ![1, 256]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S100000x128, .f32⟩
  | .hbm, ⟨3, _⟩ => ⟨S100000x128, .f32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S1, .i32⟩
  | .hbm, ⟨19, _⟩ => ⟨S_, .i32⟩
  | .hbm, ⟨20, _⟩ => ⟨S4096x1, .i32⟩
  | .hbm, ⟨21, _⟩ => ⟨S4096x1, .i1⟩
  | .hbm, ⟨22, _⟩ => ⟨S1x1, .i32⟩
  | .hbm, ⟨23, _⟩ => ⟨S4096x1, .i32⟩
  | .hbm, ⟨24, _⟩ => ⟨S4096x1, .i1⟩
  | .hbm, ⟨25, _⟩ => ⟨S4096x1, .i1⟩
  | .hbm, ⟨26, _⟩ => ⟨S_, .i1⟩
  | .hbm, ⟨27, _⟩ => ⟨S4096, .i1⟩
  | .hbm, ⟨28, _⟩ => ⟨S4096x128, .f32⟩
  | .hbm, ⟨29, _⟩ => ⟨S4096x128, .i1⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S1, .i32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S1x1, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i1⟩
  | .hbm, ⟨50, _⟩ => ⟨S4096, .i1⟩
  | .hbm, ⟨51, _⟩ => ⟨S4096x128, .f32⟩
  | .hbm, ⟨52, _⟩ => ⟨S4096x128, .i1⟩
  | .hbm, ⟨53, _⟩ => ⟨S_, .f32⟩
  | .hbm, ⟨54, _⟩ => ⟨S4096x128, .f32⟩
  | .hbm, ⟨55, _⟩ => ⟨S4096x128, .f32⟩
  | .hbm, ⟨56, _⟩ => ⟨S4096x256, .f32⟩
  | .hbm, ⟨57, _⟩ => ⟨S4096x512, .f32⟩
  | .hbm, ⟨58, _⟩ => ⟨S1x512, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S4096x512, .f32⟩
  | .hbm, ⟨63, _⟩ => ⟨S4096x512, .f32⟩
  | .hbm, ⟨64, _⟩ => ⟨S4096x256, .f32⟩
  | .hbm, ⟨65, _⟩ => ⟨S1x256, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S4096x256, .f32⟩
  | .hbm, ⟨70, _⟩ => ⟨S4096x256, .f32⟩
  | .hbm, ⟨71, _⟩ => ⟨S4096x128, .f32⟩
  | .hbm, ⟨72, _⟩ => ⟨S1x128, .f32⟩
  | .hbm, ⟨73, _⟩ => ⟨S4096x128, .f32⟩
  | .hbm, ⟨74, _⟩ => ⟨S4096x128, .f32⟩
  | .hbm, ⟨75, _⟩ => ⟨S_, .f32⟩
  | .hbm, ⟨76, _⟩ => ⟨S4096x128, .f32⟩
  | .hbm, ⟨77, _⟩ => ⟨S4096x128, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_cst : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_cst_0 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_cst_1 : Ref sig .tc := ⟨.hbm, 75, rfl⟩
abbrev main_v19 : Ref sig .tc := ⟨.hbm, 76, rfl⟩
abbrev main_v20 : Ref sig .tc := ⟨.hbm, 77, rfl⟩

abbrev nD : Nat := 1
abbrev τ : Topo := Topo.v7x

variable {F : FTy → Type} [FloatOps F]
-- ==== Proof.Setup.lean ====
/-
  The set-up of the two-tower gather and its MLP, shared by the other modules: the program as the launch theorem sees
  it, the ghost state, the arrays by name, and WHAT THE SPARSECORE CALL LEAVES. The call copies, for every position `j` of an
  index list, row `list j` of a table to row `j` of its result: `gathered table list`. Thirty-two tasks (two cores by
  sixteen vector subcores) do 128 positions each; task `(c, s)` does the positions from `256 s + 128 c` on.
-/
module

public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.Pipeline.Kit
public import Idealize.ShloMosaic.Lib.ShareLeaves
public import Idealize.ShloMosaic.Lib.ValueIdx
public import Idealize.ShloMosaic.Lib.Tactic

@[expose] public section

noncomputable section

namespace Cert.Proof.TwoTower

open Cert.KernelIdeal Cert.KernelIdeal.Gen

open Idealize.ShloMosaic Idealize.ShloMosaic.ValueIdx
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes' rounds, the pipeline's rounds, the transfers' counters -/

abbrev UH : Type := URounds (GSem nD τ sig) ℕ
abbrev UU : Type := UH × (UR sig nD τ × Counters)

local notation "𝕄" => MT nD τ sig (HIx 1) (Elt F) ℕ UU ℕ

/-- Where the handshakes' rounds live, -/
abbrev EH : Emb UH (MT nD τ sig (HIx 1) (Elt F) ℕ UU ℕ) := embL
/-- and where the pipeline's do. -/
abbrev EP : Emb (UR sig nD τ) (MT nD τ sig (HIx 1) (Elt F) ℕ UU ℕ) := (Emb.inl : Emb (UR sig nD τ) (UR sig nD τ × Counters)).trans embR

/-! ## What the call computes -/

/-- The table row a word names: the word itself where it is below 100000, as it is everywhere the proof looks. -/
def rowOf (w : BitVec 32) : Fin 100000 := ⟨w.toNat % 100000, Nat.mod_lt _ (by decide)⟩

theorem rowOf_val {w : BitVec 32} (h : w.toNat < 100000) : (rowOf w).val = w.toNat := Nat.mod_eq_of_lt h

/-- The table's rows named by the list, one after the other. -/
def gathered (table : S100000x128.Idx → Elt F .f32) (list : S4096.Idx → BitVec 32) : S4096x128.Idx → Elt F .f32 :=
  fun j => table (ix2 (rowOf (list (ix1 (j 0)))) (j 1))

/-! ## The arrays -/

abbrev uiLoc (d : Dev nD) : Loc nD τ sig := (SparseCore.T d).loc main_arg0
abbrev iiLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev guLoc (d : Dev nD) : Loc nD τ sig := (SparseCore.T d).loc main_v3_0
abbrev giLoc (d : Dev nD) : Loc nD τ sig := (SparseCore.T d).loc main_v3_1

variable (m : (ℓ : Loc nD τ sig) → Buf (Elt F) ℓ)

/-- The gathered rows of the user table, -/
def GU (d : Dev nD) : Buf (Elt F) (guLoc d) := gathered (m (utLoc d)) (m (uiLoc d))
/-- and of the item table. -/
def GI (d : Dev nD) : Buf (Elt F) (giLoc d) := gathered (m (itLoc d)) (m (iiLoc d))

/-- What the proof asks of the launch memory: every word of the two lists names a row of its table. -/
def PreOK : Prop := ∀ (d : Dev nD) (j : S4096.Idx), (m (uiLoc d) j).toNat < 100000 ∧ (m (iiLoc d) j).toNat < 100000

/-! ## The tasks: their blocks of the results and their shares of what all of them read -/

/-- Task `(c, s)`'s grid coordinates. -/
def co (c : Fin 2) (s : Fin 16) : grid0.Coords :=
  fun | 0 => c | 1 => s | ⟨_ + 2, h⟩ => absurd h (Nat.not_lt.2 (Nat.le_add_left _ _))

/-- The block of a result a task writes. -/
abbrev orect (L : grid0.Coords) : Rect S4096x128 := Rect.unit (s := S4096x128) (k0_off2 L) S128x128.size (k0_off2_inb L)
abbrev oset (L : grid0.Coords) : Finset S4096x128.Idx := (orect L).set

/-- A position is in a task's block when its row is one of the 128 from `256 s + 128 c` on. -/
theorem mem_oset (L : grid0.Coords) (j : S4096x128.Idx) :
    j ∈ oset L ↔ 256 * (L 1).val + 128 * (L 0).val ≤ (j 0).val ∧ (j 0).val < 256 * (L 1).val + 128 * (L 0).val + 128 := by
  rw [Rect.mem_set_unit, k0_off2_eq]
  refine ⟨fun h => h 0, fun h a => ?_⟩
  match a with
  | 0 => exact h
  | 1 => exact ⟨Nat.zero_le _, by have := (j 1).isLt; simpa using this⟩

/-- The blocks of one core's sixteen tasks. -/
def cset (c : Fin 2) : Finset S4096x128.Idx := Finset.univ.biUnion fun s : Fin 16 => oset (co c s)

theorem oset_disjoint (c : Fin 2) : ∀ s ∈ (Finset.univ : Finset (Fin 16)), ∀ s' ∈ (Finset.univ : Finset (Fin 16)), s ≠ s' →
    Disjoint (oset (co c s)) (oset (co c s')) := by
  intro s _ s' _ hne
  refine Finset.disjoint_left.mpr fun j hj hj' => hne (Fin.ext ?_)
  rw [mem_oset] at hj hj'
  simp only [co] at hj hj'
  omega

theorem cset_disjoint : ∀ c ∈ (Finset.univ : Finset (Fin 2)), ∀ c' ∈ (Finset.univ : Finset (Fin 2)), c ≠ c' → Disjoint (cset c) (cset c') := by
  intro c _ c' _ hne
  refine Finset.disjoint_left.mpr fun j hj hj' => hne (Fin.ext ?_)
  simp only [cset, Finset.mem_biUnion, Finset.mem_univ, true_and] at hj hj'
  obtain ⟨s, hs⟩ := hj
  obtain ⟨s', hs'⟩ := hj'
  rw [mem_oset] at hs hs'
  simp only [co] at hs hs'
  have hc : c.val < 2 := c.isLt
  have hc' : c'.val < 2 := c'.isLt
  omega

theorem cset_cover : (Finset.univ : Finset (Fin 2)).biUnion cset = Finset.univ := by
  ext j
  simp only [cset, Finset.mem_biUnion, Finset.mem_univ, true_and, iff_true, mem_oset, co]
  have hj : (j 0).val < 4096 := (j 0).isLt
  exact ⟨⟨(j 0).val / 128 % 2, by omega⟩, ⟨(j 0).val / 256, by omega⟩, by simp only; omega⟩

/-- A core's share of an array everybody reads, and a task's share of that. -/
abbrev cq (c : Fin 2) : PosShare TreeShare := ShareLeaves.leaf 1 fullShare c
abbrev tq (c : Fin 2) (s : Fin 16) : PosShare TreeShare := ShareLeaves.leaf 4 (cq c) s

/-! ## What the handshakes carry -/

/-- The four arrays the tasks read, at share `q`. -/
abbrev readPts (d : Dev nD) (q : PosShare TreeShare) : sProp 𝕄 :=
  iprop((uiLoc d ↦{q} m (uiLoc d)) ∗ (iiLoc d ↦{q} m (iiLoc d)) ∗ (utLoc d ↦{q} m (utLoc d)) ∗ (itLoc d ↦{q} m (itLoc d)))

/-- The two results on the elements `I`, at given contents. -/
abbrev outPts (d : Dev nD) (I : Finset S4096x128.Idx) (fu : Buf (Elt F) (guLoc d)) (fi : Buf (Elt F) (giLoc d)) : sProp 𝕄 :=
  iprop((guLoc d ↦[I]{fullShare} fu) ∗ (giLoc d ↦[I]{fullShare} fi))

/-- Each core is handed its share of the four arrays read and its tasks' blocks of the two results, each task its share and its block;
    the blocks come back holding the gathered rows. -/
def P : (K (F := F)).Pay (nD := nD) (Val := Elt F) (Name := ℕ) (U := UU) where
  st := fun q d c => match q with
    | 0 => iprop(readPts m d (cq (Fin.cast nCore_zero c)) ∗ outPts d (cset (Fin.cast nCore_zero c)) (m (guLoc d)) (m (giLoc d)))
  dn := fun q d c => match q with
    | 0 => iprop(readPts m d (cq (Fin.cast nCore_zero c)) ∗ outPts d (cset (Fin.cast nCore_zero c)) (GU m d) (GI m d))
  go := fun q d c i => match q with
    | 0 => iprop(readPts m d (tq (Fin.cast nCore_zero c) (Fin.cast nSub_zero i))
        ∗ outPts d (oset (co (Fin.cast nCore_zero c) (Fin.cast nSub_zero i))) (m (guLoc d)) (m (giLoc d)))
  td := fun q d c i => match q with
    | 0 => iprop(readPts m d (tq (Fin.cast nCore_zero c) (Fin.cast nSub_zero i))
        ∗ outPts d (oset (co (Fin.cast nCore_zero c) (Fin.cast nSub_zero i))) (GU m d) (GI m d))
  x := fun _ _ => iprop(emp)

instance P_storable : (P (F := F) m).IsStorable where
  st q d c := match q with
    | 0 => (inferInstance : BI.Storable (upEmb : UEmb _ 𝕄)
      iprop(readPts m d (cq (Fin.cast nCore_zero c)) ∗ outPts d (cset (Fin.cast nCore_zero c)) (m (guLoc d)) (m (giLoc d))))
  dn q d c := match q with
    | 0 => (inferInstance : BI.Storable (upEmb : UEmb _ 𝕄)
      iprop(readPts m d (cq (Fin.cast nCore_zero c)) ∗ outPts d (cset (Fin.cast nCore_zero c)) (GU m d) (GI m d)))
  go q d c i := match q with
    | 0 => (inferInstance : BI.Storable (upEmb : UEmb _ 𝕄)
      iprop(readPts m d (tq (Fin.cast nCore_zero c) (Fin.cast nSub_zero i))
        ∗ outPts d (oset (co (Fin.cast nCore_zero c) (Fin.cast nSub_zero i))) (m (guLoc d)) (m (giLoc d))))
  td q d c i := match q with
    | 0 => (inferInstance : BI.Storable (upEmb : UEmb _ 𝕄)
      iprop(readPts m d (tq (Fin.cast nCore_zero c) (Fin.cast nSub_zero i))
        ∗ outPts d (oset (co (Fin.cast nCore_zero c) (Fin.cast nSub_zero i))) (GU m d) (GI m d)))

end Cert.Proof.TwoTower

end
-- ==== Proof.Tile.lean ====
/-
  ONE TASK of the SparseCore call, at a symbolic core and vector subcore: two copies fetch the task's 128 words of
  each index list, two indirect gathers fetch the rows they name, two copies write the rows to the task's blocks of the
  results. After it both blocks hold the gathered rows.
-/
module

public import proofs.«01_k».proof.Proof.Setup
public import proofs.«01_k».proof.Proof.Gen.KernelIdeal.Skeleton

@[expose] public section

noncomputable section

namespace Cert.Proof.TwoTower

open Cert.KernelIdeal Cert.KernelIdeal.Gen

open Idealize.ShloMosaic Idealize.ShloMosaic.ValueIdx
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0

/-! ## The memrefs the task names -/

abbrev utV : Memref sig .scVector .hbm S100000x128 .f32 := Memref.whole main_arg2_scv
abbrev itV : Memref sig .scVector .hbm S100000x128 .f32 := Memref.whole main_arg3_scv
abbrev uiV : Memref sig .scVector .hbm S4096 .i32 := Memref.whole main_arg0_scv
abbrev iiV : Memref sig .scVector .hbm S4096 .i32 := Memref.whole main_arg1_scv
abbrev guV : Memref sig .scVector .hbm S4096x128 .f32 := Memref.whole main_v3_0_scv
abbrev giV : Memref sig .scVector .hbm S4096x128 .f32 := Memref.whole main_v3_1_scv
abbrev ulV : Memref sig .scVector .vmem S128 .i32 := Memref.whole cc0_scratch0
abbrev urV : Memref sig .scVector .vmem S128x128 .f32 := Memref.whole cc0_scratch1
abbrev ilV : Memref sig .scVector .vmem S128 .i32 := Memref.whole cc0_scratch2
abbrev irV : Memref sig .scVector .vmem S128x128 .f32 := Memref.whole cc0_scratch3

/-- The task's 128 positions of an index list, and its block of each result. -/
abbrev lrect (L : grid0.Coords) : Rect S4096 := Rect.unit (s := S4096) (k0_off1 L) S128.size (k0_off1_inb L)
abbrev uiBlk (L : grid0.Coords) : Memref sig .scVector .hbm S128 .i32 := uiV.slice (lrect L) (fun _ => rfl)
abbrev iiBlk (L : grid0.Coords) : Memref sig .scVector .hbm S128 .i32 := iiV.slice (lrect L) (fun _ => rfl)
abbrev guBlk (L : grid0.Coords) : Memref sig .scVector .hbm S128x128 .f32 := guV.slice (orect L) (fun _ => rfl)
abbrev giBlk (L : grid0.Coords) : Memref sig .scVector .hbm S128x128 .f32 := giV.slice (orect L) (fun _ => rfl)

theorem set_guBlk : (guBlk L).view.set = oset L := by
  show ((View.whole (main_v3_0_scv : Ref sig .scVector)).slice (orect L)).set = _
  rw [View.set_slice]; exact Finset.map_refl
theorem set_giBlk : (giBlk L).view.set = oset L := by
  show ((View.whole (main_v3_1_scv : Ref sig .scVector)).slice (orect L)).set = _
  rw [View.set_slice]; exact Finset.map_refl

theorem pts_guBlk (f : Buf (Elt F) (guLoc d)) :
    ((guBlk L).view.loc (V d (cV L) (jV L)) ↦[(guBlk L).view.set]{fullShare} f : sProp 𝕄) = guLoc d ↦[oset L]{fullShare} f := by
  rw [set_guBlk]
theorem pts_giBlk (f : Buf (Elt F) (giLoc d)) :
    ((giBlk L).view.loc (V d (cV L) (jV L)) ↦[(giBlk L).view.set]{fullShare} f : sProp 𝕄) = giLoc d ↦[oset L]{fullShare} f := by
  rw [set_giBlk]

/-! ## The subcore's own cells and buffers, taken apart -/

/-- The cell of DMA semaphore `s` on the task's subcore. -/
abbrev cell (d : Dev nD) (L : grid0.Coords) (s : DmaSem sig) : GSem nD τ sig := (V d (cV L) (jV L), .dma s)

theorem mem_own (s : DmaSem sig) (h : (SemLoc.dma s : SemLoc sig).isScoped .scVector = true) :
    cell d L s ∈ ownCells (V d (cV L) (jV L)) := (mem_ownCells (g := cell d L s)).mpr ⟨rfl, h⟩

theorem cell_ne {s s' : DmaSem sig} (h : s ≠ s') : cell d L s ≠ cell d L s' := by
  intro e; exact h (by simpa [cell] using e)

/-- The subcore's other cells. -/
abbrev restCells (d : Dev nD) (L : grid0.Coords) : Finset (GSem nD τ sig) :=
  ((((((ownCells (V d (cV L) (jV L))).erase (cell d L cc0_scoped0.sem)).erase (cell d L cc0_scoped1.sem)).erase (cell d L cc0_scratch4.sem)).erase
    (cell d L cc0_scratch5.sem)).erase (cell d L cc0_scratch6.sem)).erase (cell d L cc0_scratch7.sem)

theorem ownSems0_V :
    (ownSems0 (V d (cV L) (jV L)) : sProp 𝕄)
      = iprop(semVal (cell d L cc0_scoped0.sem) 0 ∗ semVal (cell d L cc0_scoped1.sem) 0 ∗ semVal (cell d L cc0_scratch4.sem) 0
          ∗ semVal (cell d L cc0_scratch5.sem) 0 ∗ semVal (cell d L cc0_scratch6.sem) 0 ∗ semVal (cell d L cc0_scratch7.sem) 0
          ∗ bigSep (restCells d L) fun g => semVal g 0) := by
  unfold SparseCore.Cfg.ownSems0
  have h0 := mem_own d L cc0_scoped0.sem (by decide)
  have h1 := Finset.mem_erase.mpr ⟨cell_ne d L (s := cc0_scoped1.sem) (s' := cc0_scoped0.sem) (by decide), mem_own d L cc0_scoped1.sem (by decide)⟩
  have h2 := Finset.mem_erase.mpr ⟨cell_ne d L (s := cc0_scratch4.sem) (s' := cc0_scoped1.sem) (by decide),
    Finset.mem_erase.mpr ⟨cell_ne d L (s := cc0_scratch4.sem) (s' := cc0_scoped0.sem) (by decide), mem_own d L cc0_scratch4.sem (by decide)⟩⟩
  have h3 := Finset.mem_erase.mpr ⟨cell_ne d L (s := cc0_scratch5.sem) (s' := cc0_scratch4.sem) (by decide),
    Finset.mem_erase.mpr ⟨cell_ne d L (s := cc0_scratch5.sem) (s' := cc0_scoped1.sem) (by decide),
    Finset.mem_erase.mpr ⟨cell_ne d L (s := cc0_scratch5.sem) (s' := cc0_scoped0.sem) (by decide), mem_own d L cc0_scratch5.sem (by decide)⟩⟩⟩
  have h4 := Finset.mem_erase.mpr ⟨cell_ne d L (s := cc0_scratch6.sem) (s' := cc0_scratch5.sem) (by decide),
    Finset.mem_erase.mpr ⟨cell_ne d L (s := cc0_scratch6.sem) (s' := cc0_scratch4.sem) (by decide),
    Finset.mem_erase.mpr ⟨cell_ne d L (s := cc0_scratch6.sem) (s' := cc0_scoped1.sem) (by decide),
    Finset.mem_erase.mpr ⟨cell_ne d L (s := cc0_scratch6.sem) (s' := cc0_scoped0.sem) (by decide), mem_own d L cc0_scratch6.sem (by decide)⟩⟩⟩⟩
  have h5 := Finset.mem_erase.mpr ⟨cell_ne d L (s := cc0_scratch7.sem) (s' := cc0_scratch6.sem) (by decide),
    Finset.mem_erase.mpr ⟨cell_ne d L (s := cc0_scratch7.sem) (s' := cc0_scratch5.sem) (by decide),
    Finset.mem_erase.mpr ⟨cell_ne d L (s := cc0_scratch7.sem) (s' := cc0_scratch4.sem) (by decide),
    Finset.mem_erase.mpr ⟨cell_ne d L (s := cc0_scratch7.sem) (s' := cc0_scoped1.sem) (by decide),
    Finset.mem_erase.mpr ⟨cell_ne d L (s := cc0_scratch7.sem) (s' := cc0_scoped0.sem) (by decide), mem_own d L cc0_scratch7.sem (by decide)⟩⟩⟩⟩⟩
  rw [SparseCore.bigSep_erase' h0, SparseCore.bigSep_erase' h1, SparseCore.bigSep_erase' h2, SparseCore.bigSep_erase' h3,
    SparseCore.bigSep_erase' h4, SparseCore.bigSep_erase' h5]

/-- The subcore's buffer `b`, as the device names it. -/
abbrev dref (L : grid0.Coords) (b : Ref sig .scVector) : DevRef τ sig := (Proc.scVector (cV L) (jV L)).devRef b

theorem dref_ne {b b' : Ref sig .scVector} (h : b ≠ b') : dref L b ≠ dref L b' := fun e => h (Proc.devRef_injective _ e)

/-- The subcore's other buffers. -/
abbrev restRefs (L : grid0.Coords) : Finset (DevRef τ sig) :=
  ((((ownRefs (τ := τ) (.scVector (cV L) (jV L))).erase (dref L cc0_scratch0)).erase (dref L cc0_scratch1)).erase (dref L cc0_scratch2)).erase (dref L cc0_scratch3)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (restRefs L) fun b => iprop(∃ f, ((d, b) : Loc nD τ sig) ↦{fullShare} f)) := by
  unfold SparseCore.Cfg.ownBufs
  have mem (b : Ref sig .scVector) (h : (dref L b).owner = .proc (.scVector (cV L) (jV L))) : dref L b ∈ ownRefs (τ := τ) (.scVector (cV L) (jV L)) :=
    SparseCore.Cfg.mem_ownRefs_of_owner (p := Proc.scVector (cV L) (jV L)) h
  refine (SparseCore.bigSep_erase' (mem cc0_scratch0 rfl)).trans ?_
  rw [SparseCore.bigSep_erase' (Finset.mem_erase.mpr ⟨dref_ne L (b := cc0_scratch1) (by decide), mem cc0_scratch1 rfl⟩),
    SparseCore.bigSep_erase' (Finset.mem_erase.mpr ⟨dref_ne L (b := cc0_scratch2) (by decide), Finset.mem_erase.mpr ⟨dref_ne L (b := cc0_scratch2) (by decide), mem cc0_scratch2 rfl⟩⟩),
    SparseCore.bigSep_erase' (Finset.mem_erase.mpr ⟨dref_ne L (b := cc0_scratch3) (by decide), Finset.mem_erase.mpr ⟨dref_ne L (b := cc0_scratch3) (by decide),
      Finset.mem_erase.mpr ⟨dref_ne L (b := cc0_scratch3) (by decide), mem cc0_scratch3 rfl⟩⟩⟩)]

/-! ## What the lists hold once fetched -/

/-- The words the fetch lands in the user list's buffer name rows. -/
theorem inb_u (hpre : PreOK m) (fs : Buf (Elt F) ((V d (cV L) (jV L)).loc cc0_scratch0)) :
    ∀ x, (ulV.view.read (Elt F) (View.write (Elt F) ulV.view fs ((uiBlk L).view.read (Elt F) (m (uiLoc d))) Finset.univ) x).toNat
      < S100000x128.size gathers_S100000x128_S128x128.axis := by
  intro x
  rw [View.write_whole_univ]
  simp only [Memref.view_whole, View.read_whole]
  rw [show ∀ j, (uiBlk L).view.read (Elt F) (m (uiLoc d)) j = m (uiLoc d) ((uiBlk L).view.emb j) from fun j => (View.read_apply _ _).trans (cast_eq _ _)]
  exact (hpre d _).1
/-- The words the fetch lands in the item list's buffer name rows. -/
theorem inb_i (hpre : PreOK m) (fs : Buf (Elt F) ((V d (cV L) (jV L)).loc cc0_scratch2)) :
    ∀ x, (ilV.view.read (Elt F) (View.write (Elt F) ilV.view fs ((iiBlk L).view.read (Elt F) (m (iiLoc d))) Finset.univ) x).toNat
      < S100000x128.size gathers_S100000x128_S128x128.axis := by
  intro x
  rw [View.write_whole_univ]
  simp only [Memref.view_whole, View.read_whole]
  rw [show ∀ j, (iiBlk L).view.read (Elt F) (m (iiLoc d)) j = m (iiLoc d) ((iiBlk L).view.emb j) from fun j => (View.read_apply _ _).trans (cast_eq _ _)]
  exact (hpre d _).2

/-! ## What the task writes -/

/-- The rows a stream gathers by 128 words of a list are the gathered rows at the task's positions. -/
theorem gather_block (table : S100000x128.Idx → Elt F .f32) (list : S4096.Idx → BitVec 32) (words : S128.Idx → Elt F .i32)
    (hw : ∀ y, words y = list ((lrect L).emb y)) (hn : S128.numel = S128x128.size gathers_S100000x128_S128x128.axis')
    (h : ∀ y, (words y).toNat < S100000x128.size gathers_S100000x128_S128x128.axis) (x : S128x128.Idx) :
    SparseCore.gatherPayload gathers_S100000x128_S128x128 table (SparseCore.rows words hn h) x = gathered table list ((orect L).emb x) := by
  unfold SparseCore.gatherPayload gathered
  congr 1
  have hpos : (lrect L).emb (S128.rowMajor.symm ((x 0).cast hn.symm)) = ix1 (((orect L).emb x) 0) := by
    funext a
    match a with
    | 0 =>
      apply Fin.ext
      rw [Rect.emb_apply]
      have e : ((S128.rowMajor.symm ((x 0).cast hn.symm)) 0).val = (x 0).val := by
        rw [← Shape.rowMajor_val_one, Equiv.apply_symm_apply]; rfl
      show k0_off1 L 0 + 1 * _ = k0_off2 L 0 + 1 * _
      rw [e, k0_off1_eq, k0_off2_eq]; rfl
  funext b
  match b with
  | 0 =>
    apply Fin.ext
    have hlt := h (S128.rowMajor.symm ((x 0).cast hn.symm))
    rw [show gathers_S100000x128_S128x128.idx (SparseCore.rows words hn h) x 0 = SparseCore.rows words hn h (x 0) from
      Shape.Gathers.idx_axis gathers_S100000x128_S128x128 _ x]
    show (words (S128.rowMajor.symm ((x 0).cast hn.symm))).toNat = (rowOf (list (ix1 (((orect L).emb x) 0)))).val
    rw [hw, hpos] at hlt ⊢
    exact (rowOf_val hlt).symm
  | 1 =>
    apply Fin.ext
    rw [Shape.Gathers.idx_of_ne gathers_S100000x128_S128x128 _ x 1 (by decide)]
    show (x 1).val = k0_off2 L 1 + 1 * (x 1).val
    rw [k0_off2_eq]; simp

/-- A block written whole reads as what was written. -/
theorem read_block {sp : Space} (v : View sig .scVector sp S128x128 .f32) (f : v.ty.Contents (Elt F)) (w : S128x128.Idx → Elt F .f32) (x : S128x128.Idx) :
    v.read (Elt F) (v.writes (Elt F) f [⟨Rect.whole S128x128, w⟩]) x = w x :=
  View.read_writes_cons_hit v f (Rect.whole S128x128) w [] x x (funext fun a => Fin.ext (by simp [Rect.emb_apply]))

/-- A block of the user rows written with what agrees with `G` there holds `G` there; -/
theorem guBlk_written (f G : Buf (Elt F) (guLoc d)) (w : S128x128.Idx → Elt F .f32) (hw : ∀ x, w x = G ((orect L).emb x)) :
    ∀ j ∈ (guBlk L).view.set, (guBlk L).view.writes (Elt F) f [⟨Rect.whole S128x128, w⟩] j = G j := by
  intro j hj
  obtain ⟨x, -, rfl⟩ := Finset.mem_map.mp hj
  have e := read_block (F := F) (guBlk L).view f w x
  rw [View.read_apply, cast_eq] at e
  exact e.trans (hw x)
/-- and of the item rows. -/
theorem giBlk_written (f G : Buf (Elt F) (giLoc d)) (w : S128x128.Idx → Elt F .f32) (hw : ∀ x, w x = G ((orect L).emb x)) :
    ∀ j ∈ (giBlk L).view.set, (giBlk L).view.writes (Elt F) f [⟨Rect.whole S128x128, w⟩] j = G j := by
  intro j hj
  obtain ⟨x, -, rfl⟩ := Finset.mem_map.mp hj
  have e := read_block (F := F) (giBlk L).view f w x
  rw [View.read_apply, cast_eq] at e
  exact e.trans (hw x)

/-- What the user list's buffer reads as once the fetch has landed, -/
theorem fetched_u (fs : Buf (Elt F) ((V d (cV L) (jV L)).loc cc0_scratch0)) (y : S128.Idx) :
    ulV.view.read (Elt F) (View.write (Elt F) ulV.view fs ((uiBlk L).view.read (Elt F) (m (uiLoc d))) Finset.univ) y = m (uiLoc d) ((lrect L).emb y) := by
  rw [View.write_whole_univ]; rfl
/-- and the item list's. -/
theorem fetched_i (fs : Buf (Elt F) ((V d (cV L) (jV L)).loc cc0_scratch2)) (y : S128.Idx) :
    ilV.view.read (Elt F) (View.write (Elt F) ilV.view fs ((iiBlk L).view.read (Elt F) (m (iiLoc d))) Finset.univ) y = m (iiLoc d) ((lrect L).emb y) := by
  rw [View.write_whole_univ]; rfl

/-- All of the table read through the slice the stream names is the table. -/
theorem table_u : View.read (Elt F) (utV.slice (Rect.unit (s := S100000x128) ![0, 0] S100000x128.size inb_S100000x128_S100000x128_0_0) (fun _ => rfl)).view (m (utLoc d)) = m (utLoc d) := by
  funext x
  show m (utLoc d) ((Rect.unit (s := S100000x128) ![0, 0] S100000x128.size inb_S100000x128_S100000x128_0_0).emb x) = _
  congr 1; funext a; apply Fin.ext
  match a with
  | 0 => simp [Rect.emb_apply]
  | 1 => simp [Rect.emb_apply]
theorem table_i : View.read (Elt F) (itV.slice (Rect.unit (s := S100000x128) ![0, 0] S100000x128.size inb_S100000x128_S100000x128_0_0) (fun _ => rfl)).view (m (itLoc d)) = m (itLoc d) := by
  funext x
  show m (itLoc d) ((Rect.unit (s := S100000x128) ![0, 0] S100000x128.size inb_S100000x128_S100000x128_0_0).emb x) = _
  congr 1; funext a; apply Fin.ext
  match a with
  | 0 => simp [Rect.emb_apply]
  | 1 => simp [Rect.emb_apply]

variable [FloatOps F]

set_option maxHeartbeats 4000000 in
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ (readPts m d q ∗ outPts d (oset L) (m (guLoc d)) (m (giLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L utV (Memref.isWhole_whole _) itV (Memref.isWhole_whole _) uiV (Memref.isWhole_whole _) iiV (Memref.isWhole_whole _)
            guV (Memref.isWhole_whole _) giV (Memref.isWhole_whole _) ulV (Memref.isWhole_whole _) urV (Memref.isWhole_whole _)
            ilV (Memref.isWhole_whole _) irV (Memref.isWhole_whole _) cc0_scratch4 cc0_scratch5 cc0_scratch6 cc0_scratch7 cc0_scoped0 cc0_scoped1)
          fun _ => iprop((readPts m d q ∗ outPts d (oset L) (GU m d) (GI m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  iintro ⟨#Hlv, -, ⟨⟨Hui, Hii, Hut, Hit⟩, Hgu, Hgi⟩, ⟨⟨%ful, Hul⟩, ⟨%fur, Hur⟩, ⟨%fil, Hil⟩, ⟨%fir, Hir⟩, Hbufs⟩, ⟨HsA, HsB, HsC, HsD, HsE, HsG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hgu' := (Entails.of_eq (pts_guBlk (F := F) d L _).symm) $$ Hgu
  ihave Hgi' := (Entails.of_eq (pts_giBlk (F := F) d L _).symm) $$ Hgi
  ihave Hui' := (Entails.of_eq (show (uiLoc d ↦{q} m (uiLoc d) : sProp 𝕄) = uiV.view.loc (V d (cV L) (jV L)) ↦{q} m (uiLoc d) from rfl)) $$ Hui
  ihave Hii' := (Entails.of_eq (show (iiLoc d ↦{q} m (iiLoc d) : sProp 𝕄) = iiV.view.loc (V d (cV L) (jV L)) ↦{q} m (iiLoc d) from rfl)) $$ Hii
  ihave Hut' := (Entails.of_eq (show (utLoc d ↦{q} m (utLoc d) : sProp 𝕄) = utV.view.loc (V d (cV L) (jV L)) ↦{q} m (utLoc d) from rfl)) $$ Hut
  ihave Hit' := (Entails.of_eq (show (itLoc d ↦{q} m (itLoc d) : sProp 𝕄) = itV.view.loc (V d (cV L) (jV L)) ↦{q} m (itLoc d) from rfl)) $$ Hit
  ihave Hul' := (Entails.of_eq (show ((V d (cV L) (jV L)).loc cc0_scratch0 ↦{fullShare} ful : sProp 𝕄) = ulV.view.loc (V d (cV L) (jV L)) ↦{fullShare} ful from rfl)) $$ Hul
  ihave Hur' := (Entails.of_eq (show ((V d (cV L) (jV L)).loc cc0_scratch1 ↦{fullShare} fur : sProp 𝕄) = urV.view.loc (V d (cV L) (jV L)) ↦{fullShare} fur from rfl)) $$ Hur
  ihave Hil' := (Entails.of_eq (show ((V d (cV L) (jV L)).loc cc0_scratch2 ↦{fullShare} fil : sProp 𝕄) = ilV.view.loc (V d (cV L) (jV L)) ↦{fullShare} fil from rfl)) $$ Hil
  ihave Hir' := (Entails.of_eq (show ((V d (cV L) (jV L)).loc cc0_scratch3 ↦{fullShare} fir : sProp 𝕄) = irV.view.loc (V d (cV L) (jV L)) ↦{fullShare} fir from rfl)) $$ Hir
  have hinu := inb_u m d L hpre
  have hini := inb_i m d L hpre
  sl_exec
  have hgu : ∀ j ∈ (guBlk L).view.set, (guBlk L).view.writes (Elt F) (m (guLoc d)) [⟨Rect.whole S128x128, tile_body.sl.dma0_2 m d L ful fur hinu⟩] j = GU m d j :=
    guBlk_written d L _ (GU m d) _ fun x => by
      refine (read_block urV.view fur _ x).trans ?_
      unfold tile_body.sl.gather2 GU
      rw [table_u]
      exact gather_block L _ _ _ (fetched_u m d L ful) _ _ x
  have hgi : ∀ j ∈ (giBlk L).view.set, (giBlk L).view.writes (Elt F) (m (giLoc d)) [⟨Rect.whole S128x128, tile_body.sl.dma0_3 m d L fil fir hini⟩] j = GI m d j :=
    giBlk_written d L _ (GI m d) _ fun x => by
      refine (read_block irV.view fir _ x).trans ?_
      unfold tile_body.sl.gather3 GI
      rw [table_i]
      exact gather_block L _ _ _ (fetched_i m d L fil) _ _ x
  ihave Hgu := (Entails.of_eq ((pointsTo_congr hgu).trans (pts_guBlk (F := F) d L _))) $$ Hgu'
  ihave Hgi := (Entails.of_eq ((pointsTo_congr hgi).trans (pts_giBlk (F := F) d L _))) $$ Hgi'
  sl_step
  isplitl [Hui' Hii' Hut' Hit' Hgu Hgi]
  · isplitr [Hgu Hgi]
    · isplitl [Hui']; · iexact Hui'
      isplitl [Hii']; · iexact Hii'
      isplitl [Hut'] <;> iassumption
    isplitl [Hgu] <;> iassumption
  isplitl [Hul' Hur' Hil' Hir' Hbufs]
  · isplitl [Hul']; · iexists _; iexact Hul'
    isplitl [Hur']; · iexists _; iexact Hur'
    isplitl [Hil']; · iexists _; iexact Hil'
    isplitl [Hir']; · iexists _; iexact Hir'
    iexact Hbufs
  isplitl [HsA HsB HsC HsD HsE HsG Hsems]
  · isplitl [HsA]; · iexact HsA
    isplitl [HsB]; · iexact HsB
    isplitl [HsC]; · iexact HsC
    isplitl [HsD]; · iexact HsD
    isplitl [HsE]; · iexact HsE
    isplitl [HsG]; · iexact HsG
    iexact Hsems
  iexists _; isplitr
  swap; · iexact HO
  ipureintro; intro p hp
  simp only [Finset.mem_insert] at hp
  rcases hp with hp | hp | hp | hp | hp | hp | hp
  all_goals first | exact .inl hp | exact .inr (hp ▸ rfl)

end Cert.Proof.TwoTower

end
-- ==== Proof.Call.lean ====
/-
  THE SPARSECORE CALL'S SET-UP: each task's obligation, how the operands of a core split into its tasks' and its tasks'
  results join, and the ghost state the launch starts from. The lists and the tables are read by every task, so they go
  out as shares (two cores, sixteen tasks each); the two results go out as the tasks' blocks.
-/
module

public import proofs.«01_k».proof.Proof.Tile

@[expose] public section

noncomputable section

namespace Cert.Proof.TwoTower

open Cert.KernelIdeal Cert.KernelIdeal.Gen

open Idealize.ShloMosaic Idealize.ShloMosaic.ValueIdx
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-! ## A task's obligation -/

section Obligation

variable [FloatOps F]

/-- The launched program on a vector subcore is the kernel at its coordinates. -/
theorem defs₀_vector (c : Fin τ.nSC) (s : Fin τ.nSub) :
    defs₀ (F := F) (.scVector c s) 0 ()
      = SparseCore.onTile hcore0 hsub0 (fun c s => cc0_gather_k (co c s) utV (Memref.isWhole_whole _) itV (Memref.isWhole_whole _) uiV (Memref.isWhole_whole _)
          iiV (Memref.isWhole_whole _) guV (Memref.isWhole_whole _) giV (Memref.isWhole_whole _) ulV (Memref.isWhole_whole _) urV (Memref.isWhole_whole _)
          ilV (Memref.isWhole_whole _) irV (Memref.isWhole_whole _) cc0_scratch4 cc0_scratch5 cc0_scratch6 cc0_scratch7 cc0_scoped0 cc0_scoped1) ⟨⟩ c s := rfl

omit [FloatOps F] in
/-- A wait at the kernel's own level is one the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (co ⟨_, hci.1⟩ ⟨_, hci.2⟩) hF hpre _ O W hO).trans (wp_mono frame _ _ fun _ => obl_post)

end Obligation

/-! ## The operands split and the results join -/

/-- A core's tasks, counted as the launch counts them or as `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The two cores, likewise. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the tasks of a core read is what the core was handed; -/
theorem read_tasks (d : Dev nD) (c : Fin 2) : (readPts m d (cq c) : sProp 𝕄) = bigSep Finset.univ fun i : Fin 16 => readPts m d (tq c i) := by
  unfold readPts
  rw [bigSep_sep', bigSep_sep', bigSep_sep']
  congr 1; · exact ShareLeaves.pointsTo_leaves Finset.univ _ 4 (cq c)
  congr 1; · exact ShareLeaves.pointsTo_leaves Finset.univ _ 4 (cq c)
  congr 1; · exact ShareLeaves.pointsTo_leaves Finset.univ _ 4 (cq c)
  exact ShareLeaves.pointsTo_leaves Finset.univ _ 4 (cq c)
/-- and what the cores read is the whole arrays. -/
theorem read_cores (d : Dev nD) : (readPts m d fullShare : sProp 𝕄) = bigSep Finset.univ fun c : Fin 2 => readPts m d (cq c) := by
  unfold readPts
  rw [bigSep_sep', bigSep_sep', bigSep_sep']
  congr 1; · exact ShareLeaves.pointsTo_leaves Finset.univ _ 1 fullShare
  congr 1; · exact ShareLeaves.pointsTo_leaves Finset.univ _ 1 fullShare
  congr 1; · exact ShareLeaves.pointsTo_leaves Finset.univ _ 1 fullShare
  exact ShareLeaves.pointsTo_leaves Finset.univ _ 1 fullShare

/-- A core's part of the results is its tasks' blocks; -/
theorem out_tasks (d : Dev nD) (c : Fin 2) (fu : Buf (Elt F) (guLoc d)) (fi : Buf (Elt F) (giLoc d)) :
    (outPts d (cset c) fu fi : sProp 𝕄) = bigSep Finset.univ fun i : Fin 16 => outPts d (oset (co c i)) fu fi := by
  unfold outPts cset
  rw [bigSep_sep']
  congr 1
  · exact pointsTo_biUnion Finset.univ (ℓ := guLoc d) (fun i : Fin 16 => oset (co c i)) (oset_disjoint c)
  · exact pointsTo_biUnion Finset.univ (ℓ := giLoc d) (fun i : Fin 16 => oset (co c i)) (oset_disjoint c)
/-- and the cores' parts are the whole results. -/
theorem out_cores (d : Dev nD) (fu : Buf (Elt F) (guLoc d)) (fi : Buf (Elt F) (giLoc d)) :
    (outPts d Finset.univ fu fi : sProp 𝕄) = bigSep Finset.univ fun c : Fin 2 => outPts d (cset c) fu fi := by
  unfold outPts
  rw [bigSep_sep', ← cset_cover]
  congr 1
  · exact pointsTo_biUnion Finset.univ (ℓ := guLoc d) cset cset_disjoint
  · exact pointsTo_biUnion Finset.univ (ℓ := giLoc d) cset cset_disjoint

/-- A core's operands split into its tasks' operands, and its tasks' results join to its results. -/
theorem vecSplit : (K (F := F)).VecSplit' (P m) 0 := by
  intro d c
  show iprop(readPts m d (cq (Fin.cast nCore_zero c)) ∗ outPts d (cset (Fin.cast nCore_zero c)) (m (guLoc d)) (m (giLoc d))) ⊢ |={Set.univ}=> iprop(
      (bigSep Finset.univ fun i : Fin ((K (F := F)).nSub 0) => iprop(readPts m d (tq (Fin.cast nCore_zero c) (Fin.cast nSub_zero i))
        ∗ outPts d (oset (co (Fin.cast nCore_zero c) (Fin.cast nSub_zero i))) (m (guLoc d)) (m (giLoc d))))
      ∗ ((bigSep Finset.univ fun i : Fin ((K (F := F)).nSub 0) => iprop(readPts m d (tq (Fin.cast nCore_zero c) (Fin.cast nSub_zero i))
          ∗ outPts d (oset (co (Fin.cast nCore_zero c) (Fin.cast nSub_zero i))) (GU m d) (GI m d)))
        -∗ iprop(readPts m d (cq (Fin.cast nCore_zero c)) ∗ outPts d (cset (Fin.cast nCore_zero c)) (GU m d) (GI m d))))
  generalize Fin.cast nCore_zero c = c'
  rw [bigSep_tasks (F := F) (fun i => iprop(readPts m d (tq c' i) ∗ outPts d (oset (co c' i)) (m (guLoc d)) (m (giLoc d)))),
    bigSep_tasks (F := F) (fun i => iprop(readPts m d (tq c' i) ∗ outPts d (oset (co c' i)) (GU m d) (GI m d))),
    bigSep_sep' (Φ := fun i : Fin 16 => readPts m d (tq c' i)), bigSep_sep' (Φ := fun i : Fin 16 => readPts m d (tq c' i)),
    ← read_tasks, ← out_tasks, ← out_tasks]
  iintro H; imodintro
  isplitl [H]; · iexact H
  iintro H; iexact H

/-- The call's operands: the lists and tables whole, the results whole at what they held; -/
theorem st0_eq (d : Dev nD) : (bigSep Finset.univ fun c : Fin ((K (F := F)).nCore 0) => (P m).st 0 d c)
    = iprop(readPts m d fullShare ∗ outPts d Finset.univ (m (guLoc d)) (m (giLoc d))) := by
  rw [read_cores, out_cores, ← bigSep_sep']
  exact bigSep_cores (F := F) fun c => iprop(readPts m d (cq c) ∗ outPts d (cset c) (m (guLoc d)) (m (giLoc d)))
/-- its results: the same with the gathered rows in place. -/
theorem dn0_eq (d : Dev nD) : (bigSep Finset.univ fun c : Fin ((K (F := F)).nCore 0) => (P m).dn 0 d c)
    = iprop(readPts m d fullShare ∗ outPts d Finset.univ (GU m d) (GI m d)) := by
  rw [read_cores, out_cores, ← bigSep_sep']
  exact bigSep_cores (F := F) fun c => iprop(readPts m d (cq c) ∗ outPts d (cset c) (GU m d) (GI m d))

/-! ## The ghost state the launch starts from -/

/-- No table is prefetched: there is one admissible choice. -/
abbrev adm : (p : Fin 1) → (pcfgs (F := F) p).Adm := fun p => (cfgs p).toPCfg_adm

theorem pin_inj : Function.Injective (Pipeline.cellOf (nD := nD) (τ := τ) (Pipeline.pin (pcfgs (F := F)) adm)) := cellOf_inj

/-- The pipeline's ghost state on one device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The handshakes' launch state beside the pipeline's. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem bigSep_pipes (Φ : Dev nD → Fin 1 → sProp 𝕄) :
    (bigSep Finset.univ fun c : Dev nD => bigSep Finset.univ fun p => Φ c p) = bigSep Finset.univ fun c : Dev nD => Φ c 0 :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) pin_inj) (Pipeline.launchToks (Pipeline.pin (pcfgs (F := F)) adm) pin_inj), 1)
      : UR sig nD τ × Counters)) $$ Hu
  icases H with ⟨HH, HR⟩
  ihave HP := (own_pair_emb embR (initOf (Pipeline.cells (Pipeline.pin (pcfgs (F := F)) adm) pin_inj) (Pipeline.launchToks (Pipeline.pin (pcfgs (F := F)) adm) pin_inj))
    (1 : Counters)) $$ HR
  icases HP with ⟨HP, -⟩
  imod (Pipeline.fund_ghost (Pipeline.pin (pcfgs (F := F)) adm) EP pin_inj) $$ HP with ⟨Hc, Ht⟩
  imodintro
  isplitl [HH]; · iexact HH
  isplitl [Hc Ht]
  · rw [bigSep_sep', ← bigSep_pipes (fun c p => Pipeline.cellsGhost (Pipeline.pin (pcfgs (F := F)) adm) EP p c),
      ← bigSep_pipes (fun c p => Pipeline.toksInit (Pipeline.pin (pcfgs (F := F)) adm) EP p c)]
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

end Cert.Proof.TwoTower

end
-- ==== Proof.Mlp.lean ====
/-
  THE DENSE NETWORK, ONE BLOCK: what the TensorCore kernel leaves in the result's staging buffer at one grid point, as a
  function of the two blocks of gathered rows and of the six parameter arrays, and the run that leaves it there.
-/
module

public import proofs.«01_k».proof.Proof.Call
public import proofs.«01_k».proof.Proof.Gen.KernelIdeal.Skeleton
public import proofs.«01_k».proof.Proof.Gen.KernelIdeal.Points
public import Idealize.ShloMosaic.Lib.Pipeline.Value
public import Idealize.ShloMosaic.Lib.Tactic

@[expose] public section

noncomputable section

namespace Cert.Proof.TwoTower

open Cert.KernelIdeal Cert.KernelIdeal.Gen

open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The top half of the first layer's weights: the rows the user columns meet. -/
abbrev topR : Rect S256x512 := Rect.unit (s := S256x512) ![0, 0] S128x512.size inb_S256x512_S128x512_0_0
/-- The bottom half: the rows the item columns meet. -/
abbrev botR : Rect S256x512 := Rect.unit (s := S256x512) ![128, 0] S128x512.size inb_S256x512_S128x512_128_0

/-- One block of the result from one block of user rows `u`, one of item rows `g` and the parameters. -/
def mlpBlk (u g : Vec F S2048x128 .f32) (w0 : Vec F S256x512 .f32) (b0 : Vec F S1x512 .f32) (w1 : Vec F S512x256 .f32)
    (b1 : Vec F S1x256 .f32) (w2 : Vec F S256x128 .f32) (b2 : Vec F S1x128 .f32) : FVec F S2048x128 .f32 :=
  k1_pay1 (k1_pay2 u (View.ld w0 topR) g (View.ld w0 botR) b0 w1 b1 w2) (k1_pay3 b2)

theorem zeros2 : (![0, 0] : Fin 2 → Nat) = fun _ => 0 := funext fun a => by fin_cases a <;> rfl

/-- One store over a whole buffer, read back, is what was stored. -/
theorem read_store {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon v f _ fun y => ⟨_, List.mem_singleton_self _, View.mem_set_unit_zero h inb y⟩,
    View.canon_unit_zero h inb w]

/-- The kernel at one grid point: it reads the eight inputs and overwrites the result's buffer. -/
theorem mlp_run (c : Dev nD) (i : grid1.Coords)
    (M1 : Memref sig .tc .vmem S2048x128 .f32) (h1 : M1.IsWhole) (M2 : Memref sig .tc .vmem S2048x128 .f32) (h2 : M2.IsWhole)
    (M3 : Memref sig .tc .vmem S256x512 .f32) (h3 : M3.IsWhole) (M4 : Memref sig .tc .vmem S1x512 .f32) (h4 : M4.IsWhole)
    (M5 : Memref sig .tc .vmem S512x256 .f32) (h5 : M5.IsWhole) (M6 : Memref sig .tc .vmem S1x256 .f32) (h6 : M6.IsWhole)
    (M7 : Memref sig .tc .vmem S256x128 .f32) (h7 : M7.IsWhole) (M8 : Memref sig .tc .vmem S1x128 .f32) (h8 : M8.IsWhole)
    (M9 : Memref sig .tc .vmem S2048x128 .f32) (h9 : M9.IsWhole)
    (u g : Vec F S2048x128 .f32) (w0 : Vec F S256x512 .f32) (b0 : Vec F S1x512 .f32) (w1 : Vec F S512x256 .f32)
    (b1 : Vec F S1x256 .f32) (w2 : Vec F S256x128 .f32) (b2 : Vec F S1x128 .f32) (x : Vec F S2048x128 .f32)
    (Q : PUnit → sProp 𝕄) :
    iprop(owns (c.tc : Thread nD τ) M1 fullShare u ∗ owns (c.tc : Thread nD τ) M2 fullShare g ∗ owns (c.tc : Thread nD τ) M3 fullShare w0
        ∗ owns (c.tc : Thread nD τ) M4 fullShare b0 ∗ owns (c.tc : Thread nD τ) M5 fullShare w1 ∗ owns (c.tc : Thread nD τ) M6 fullShare b1
        ∗ owns (c.tc : Thread nD τ) M7 fullShare w2 ∗ owns (c.tc : Thread nD τ) M8 fullShare b2 ∗ owns (c.tc : Thread nD τ) M9 fullShare x
        ∗ (iprop(owns (c.tc : Thread nD τ) M1 fullShare u ∗ owns (c.tc : Thread nD τ) M2 fullShare g ∗ owns (c.tc : Thread nD τ) M3 fullShare w0
          ∗ owns (c.tc : Thread nD τ) M4 fullShare b0 ∗ owns (c.tc : Thread nD τ) M5 fullShare w1 ∗ owns (c.tc : Thread nD τ) M6 fullShare b1
          ∗ owns (c.tc : Thread nD τ) M7 fullShare w2 ∗ owns (c.tc : Thread nD τ) M8 fullShare b2
          ∗ owns (c.tc : Thread nD τ) M9 fullShare (mlpBlk u g w0 b0 w1 b1 w2 b2)) -∗ Q ⟨⟩))
      ⊢ wp frame (wpE (defs₀ (F := F)) Variants.none (c.tc : Thread nD τ) none) Set.univ
          (cc1__mlp_body i M1 h1 M2 h2 M3 h3 M4 h4 M5 h5 M6 h6 M7 h7 M8 h8 M9 h9) Q := by
  unfold owns
  simp only [cc1__mlp_body_eq_skeleton]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, Hk⟩
  sl_exec!
  sl_step
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  iexists _; isplitr; swap; (· iexact H9)
  ipureintro
  sl_unfold_words
  rw [read_store (S := S2048x128) _ _ zeros2]
  simp only [View.readAt_eq_ld, e1, e2, e3, e4, e5, e6, e7, e8, View.ld_unit_zero (S := S2048x128) zeros2,
    View.ld_unit_zero (S := S1x512) zeros2, View.ld_unit_zero (S := S512x256) zeros2, View.ld_unit_zero (S := S1x256) zeros2,
    View.ld_unit_zero (S := S256x128) zeros2, View.ld_unit_zero (S := S1x128) zeros2]
  rfl

end Cert.Proof.TwoTower
-- ==== Proof.Region.lean ====
/-
  THE TENSORCORE CALL: the pipelined kernel over a thread state "every array at a valuation `V`", two grid points. Each
  point's blocks are the arrays' blocks there, so the result array ends holding, block by block, `mlpBlk` of them.
-/
module

public import proofs.«01_k».proof.Proof.Mlp
public import Idealize.ShloMosaic.Lib.Pipeline.Regions
public import Idealize.ShloMosaic.Lib.Pipeline.FrameBody
public import Idealize.ShloMosaic.Lib.Pipeline.RegionsLoop

@[expose] public section

noncomputable section

namespace Cert.Proof.TwoTower

open Cert.KernelIdeal Cert.KernelIdeal.Gen

open Idealize.ShloMosaic Idealize.ShloMosaic.ValueIdx Idealize.ShloMosaic.TcCoe
open Idealize.ShloMosaic.Pipeline (Dat BodyObligation)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (V : (c : Dev nD) → (b : Ref sig .tc) → Buf (Elt F) ((c : Thread nD τ).loc b))

/-- Window `w`'s block of its array at point `t`. -/
abbrev inBlk (c : Dev nD) (w : Fin 9) (t : Fin cfg1.N) : ((cfg1.win w).xblock (cfg1.grid.coords t)).Idx → Elt F (cfg1.win w).elt :=
  ((cfg1.win w).blk t).view.read (Elt F) (V c (Pipeline.arrRef spec1 w))

/-- The result's block at point `t`. -/
def outBlk (c : Dev nD) (t : Fin cfg1.N) : FVec F S2048x128 .f32 :=
  mlpBlk (inBlk V c 0 t) (inBlk V c 1 t) (inBlk V c 2 t) (inBlk V c 3 t) (inBlk V c 4 t) (inBlk V c 5 t) (inBlk V c 6 t)
    (inBlk V c 7 t)

/-- The waits the TensorCore may have recorded when the kernel starts: those of the SparseCore call. -/
def early (c : Dev nD) : Set (SemLoc sig × HIx 1) := {p | (K (F := F)).lev (SparseCore.T c, p.1) p.2 ≤ 8}

/-- The pipeline's data at one entry: the arrays at `V`; after the body the inputs as fetched and the result's block
    computed; nothing owed. -/
def dat (c : Dev nD) : Dat τ (Elt F) (HIx 1) ℕ UU ℕ cfg1 c where
  A w := V c (Pipeline.arrRef spec1 w)
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => inBlk V c 5 t
    | ⟨6, _⟩ => inBlk V c 6 t
    | ⟨7, _⟩ => inBlk V c 7 t
    | ⟨8, _⟩ => outBlk V c t
  Φ _ := Pipeline.scopedRest (Ix := HIx 1) (Name := ℕ) (U := UU) (Lvl := ℕ) (Val := Elt F) spec1 c
  q _ := fullShare
  owed _ := 0
  recorded _ := early (F := F) c

/-- The same as a family over the program's pipelines (there is one). -/
def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg1.N) (d) : (dat V c).before 0 t d = inBlk V c 0 t :=
  (dat V c).before_in_eq_fetched 0 rfl (fun _ => rfl) (fun _ _ _ => rfl) (fun _ => rfl) t d
theorem before1 (c : Dev nD) (t : Fin cfg1.N) (d) : (dat V c).before 1 t d = inBlk V c 1 t :=
  (dat V c).before_in_eq_fetched 1 rfl (fun _ => rfl) (fun _ _ _ => rfl) (fun _ => rfl) t d
theorem before2 (c : Dev nD) (t : Fin cfg1.N) (d) : (dat V c).before 2 t d = inBlk V c 2 t :=
  (dat V c).before_in_eq_fetched 2 rfl (fun _ => rfl) (fun _ _ _ => rfl) (fun _ => rfl) t d
theorem before3 (c : Dev nD) (t : Fin cfg1.N) (d) : (dat V c).before 3 t d = inBlk V c 3 t :=
  (dat V c).before_in_eq_fetched 3 rfl (fun _ => rfl) (fun _ _ _ => rfl) (fun _ => rfl) t d
theorem before4 (c : Dev nD) (t : Fin cfg1.N) (d) : (dat V c).before 4 t d = inBlk V c 4 t :=
  (dat V c).before_in_eq_fetched 4 rfl (fun _ => rfl) (fun _ _ _ => rfl) (fun _ => rfl) t d
theorem before5 (c : Dev nD) (t : Fin cfg1.N) (d) : (dat V c).before 5 t d = inBlk V c 5 t :=
  (dat V c).before_in_eq_fetched 5 rfl (fun _ => rfl) (fun _ _ _ => rfl) (fun _ => rfl) t d
theorem before6 (c : Dev nD) (t : Fin cfg1.N) (d) : (dat V c).before 6 t d = inBlk V c 6 t :=
  (dat V c).before_in_eq_fetched 6 rfl (fun _ => rfl) (fun _ _ _ => rfl) (fun _ => rfl) t d
theorem before7 (c : Dev nD) (t : Fin cfg1.N) (d) : (dat V c).before 7 t d = inBlk V c 7 t :=
  (dat V c).before_in_eq_fetched 7 rfl (fun _ => rfl) (fun _ _ _ => rfl) (fun _ => rfl) t d

/-- The body at a grid point: the nine staging buffers taken apart, the kernel run, its result put back. -/
theorem body_obligation (c : Dev nD) : BodyObligation (dat V c) (defs₀ (F := F)) 𝒱₀ (none : HIx 1) Set.univ := fun t => by
  rw [bigSep_W1, bigSep_W1, show (dat V c).Φ t.succ = (dat V c).Φ t.castSucc from rfl,
    show (dat V c).owesAt (none : HIx 1) t.succ = (dat V c).owesAt (none : HIx 1) t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0, before1, before2, before3, before4, before5, before6, before7]
  iapply (mlp_run c (grid1.coords t) (st1_0 t) _ (st1_1 t) _ (st1_2 t) _ (st1_3 t) _ (st1_4 t) _ (st1_5 t) _ (st1_6 t) _ (st1_7 t) _
    (st1_8 t) _ (inBlk V c 0 t) (inBlk V c 1 t) (inBlk V c 2 t) (inBlk V c 3 t) (inBlk V c 4 t) (inBlk V c 5 t) (inBlk V c 6 t)
    (inBlk V c 7 t) ((dat V c).before 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The result array after the call: the two points' blocks written back. -/
def tower (c : Dev nD) : Buf (Elt F) ((c : Thread nD τ).loc main_v4) := (dat V c).arrAt 8 cfg1.N

variable (Vp : (c : Dev nD) → (b : Ref sig .tc) → Buf (Elt F) ((c : Thread nD τ).loc b))

/-- What the core owes beside the call: nothing, its recorded waits all early. -/
abbrev owesE (c : Dev nD) : sProp 𝕄 :=
  iprop(∃ W, ⌜∀ p ∈ W, (K (F := F)).lev (SparseCore.T c, p.1) p.2 ≤ 8⌝ ∗ owes (c : Thread nD τ) (0 : CellTallies nD τ sig (HIx 1)) W)

set_option backward.isDefEq.respectTransparency.types false in
/-- The call over the thread state "every unscoped array at `V`, what the core owes": entered by taking the nine arrays
    out, left with them put back at `Vp`, which is `V` but for the result. -/
def reg (R : Dev nD → sProp 𝕄) (hout : ∀ c, Vp c main_v4 = tower V c) (hne : ∀ c (b : Ref sig .tc), b ≠ main_v4 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ owesE (F := F) c)
  post c := iprop(unscopedBufs c (Vp c) ∗ R c ∗ owesE (F := F) c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _)
      = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win
      launch1.arr_whole c (pdats V) ((pdats V 0 c).share_full fun _ => rfl) (V c) (Vp c) ((pdats V 0 c).arrAt · cfg1.N)
      (fun w => by
        fin_cases w
        · exact ((pdats V 0 c).arrAt_in 0 rfl _).trans (hne c main_v3_0 (by decide)).symm
        · exact ((pdats V 0 c).arrAt_in 1 rfl _).trans (hne c main_v3_1 (by decide)).symm
        · exact ((pdats V 0 c).arrAt_in 2 rfl _).trans (hne c main_arg4 (by decide)).symm
        · exact ((pdats V 0 c).arrAt_in 3 rfl _).trans (hne c main_v0 (by decide)).symm
        · exact ((pdats V 0 c).arrAt_in 4 rfl _).trans (hne c main_arg6 (by decide)).symm
        · exact ((pdats V 0 c).arrAt_in 5 rfl _).trans (hne c main_v1 (by decide)).symm
        · exact ((pdats V 0 c).arrAt_in 6 rfl _).trans (hne c main_arg8 (by decide)).symm
        · exact ((pdats V 0 c).arrAt_in 7 rfl _).trans (hne c main_v2 (by decide)).symm
        · exact (hout c).symm)
      (fun b hb => hne c b fun h => hb (h ▸ Finset.mem_image.mpr ⟨8, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW (Finset.mem_coe.mpr hp) with h | ⟨w, s, h⟩
      · exact h
      · rw [h]; exact Nat.zero_le 8
    iexact HO

end Cert.Proof.TwoTower
-- ==== Proof.Main.lean ====
/-
  THE PROGRAM'S RUN: @main on a TensorCore (three reshapes, the SparseCore call, the TensorCore call) beside the threads of
  the SparseCores; it ends with the arguments as they were, every semaphore at zero and the result at the two calls' value.
-/
module

public import proofs.«01_k».proof.Proof.Region
public import Idealize.ShloMosaic.Lib.StableHlo.Run
public import Idealize.ShloMosaic.Lib.Pipeline.Frame
public import Idealize.ShloMosaic.Lib.SparseCore.Quiescent

@[expose] public section

noncomputable section

namespace Cert.Proof.TwoTower

open Cert.KernelIdeal Cert.KernelIdeal.Gen

open Idealize.ShloMosaic Idealize.ShloMosaic.ValueIdx Idealize.ShloMosaic.TcCoe
open Idealize.ShloMosaic.StableHlo (held wp_hlo_within held_sub_split held_congr)
open Idealize.ShloMosaic.Pipeline (ucRefs)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- An array of @main as the device's buffer. -/
abbrev at' (b : Ref sig .tc) : DevRef τ sig := Proc.devRef .tc b

/-! ## The arrays between the statements of @main -/

abbrev opB0 : HloOp τ sig (Elt F) := StableHlo.reshape main_arg5 main_v0 (rfl : (.f32 : EltTy) = .f32) shapeCasts_S512_S1x512
abbrev opB1 : HloOp τ sig (Elt F) := StableHlo.reshape main_arg7 main_v1 (rfl : (.f32 : EltTy) = .f32) shapeCasts_S256_S1x256
abbrev opB2 : HloOp τ sig (Elt F) := StableHlo.reshape main_arg9 main_v2 (rfl : (.f32 : EltTy) = .f32) shapeCasts_S128_S1x128

/-- At launch, -/
def V0 (d : Dev nD) : Valuation τ sig (Elt F) := fun b => m (d, b)
/-- after the reshapes of the three biases, -/
def V1 (d : Dev nD) : Valuation τ sig (Elt F) := (opB2 (F := F)).result ((opB1 (F := F)).result ((opB0 (F := F)).result (V0 m d)))
/-- after the SparseCore call, -/
def V2 (d : Dev nD) : Valuation τ sig (Elt F) :=
  Function.update (Function.update (V1 m d) (at' main_v3_0) (GU m d)) (at' main_v3_1) (GI m d)
/-- the same by reference, -/
abbrev V2r (d : Dev nD) (b : Ref sig .tc) : Buf (Elt F) ((d : Thread nD τ).loc b) := V2 m d (at' b)
/-- and after the TensorCore call. -/
def V3 (d : Dev nD) : Valuation τ sig (Elt F) := Function.update (V2 m d) (at' main_v4) (tower (V2r m) d)
abbrev V3r (d : Dev nD) (b : Ref sig .tc) : Buf (Elt F) ((d : Thread nD τ).loc b) := V3 m d (at' b)

/-- The reshapes write nothing but their results. -/
theorem V1_ne (d : Dev nD) (b : Ref sig .tc) (h0 : b ≠ main_v0) (h1 : b ≠ main_v1) (h2 : b ≠ main_v2) :
    V1 m d (at' b) = m ((d : Thread nD τ).loc b) := by
  unfold V1
  rw [StableHlo.reshape_result_ne _ _ _ _ _ _ _ h2, StableHlo.reshape_result_ne _ _ _ _ _ _ _ h1, StableHlo.reshape_result_ne _ _ _ _ _ _ _ h0]
  rfl

theorem V2_ne (d : Dev nD) (b : Ref sig .tc) (h0 : b ≠ main_v3_0) (h1 : b ≠ main_v3_1) : V2 m d (at' b) = V1 m d (at' b) := by
  unfold V2
  rw [Function.update_of_ne (StableHlo.devRef_ne_of_ne h1), Function.update_of_ne (StableHlo.devRef_ne_of_ne h0)]

theorem V3_ne (d : Dev nD) (b : Ref sig .tc) (h : b ≠ main_v4) : V3 m d (at' b) = V2 m d (at' b) :=
  Function.update_of_ne (StableHlo.devRef_ne_of_ne h) _ _

theorem V3_out (d : Dev nD) : V3 m d (at' main_v4) = tower (V2r m) d := Function.update_self _ _ _

/-- The arrays the SparseCore call touches. -/
def S6 : Finset (DevRef τ sig) := {at' main_arg0, at' main_arg1, at' main_arg2, at' main_arg3, at' main_v3_0, at' main_v3_1}

theorem S6_sub : S6 ⊆ ucRefs τ sig := by decide

theorem held_S6 (d : Dev nD) (W : Valuation τ sig (Elt F)) :
    (held (SparseCore.T d) S6 W : sProp 𝕄)
      = iprop((uiLoc d ↦{fullShare} W (at' main_arg0)) ∗ (iiLoc d ↦{fullShare} W (at' main_arg1)) ∗ (utLoc d ↦{fullShare} W (at' main_arg2))
          ∗ (itLoc d ↦{fullShare} W (at' main_arg3)) ∗ (guLoc d ↦{fullShare} W (at' main_v3_0)) ∗ (giLoc d ↦{fullShare} W (at' main_v3_1))) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- Before the SparseCore call: its operands apart from the rest. -/
theorem before_call (d : Dev nD) :
    (held (SparseCore.T d) (ucRefs τ sig) (V1 m d) : sProp 𝕄)
      ⊢ iprop((readPts m d fullShare ∗ outPts d Finset.univ (m (guLoc d)) (m (giLoc d))) ∗ held (SparseCore.T d) (ucRefs τ sig \ S6) (V1 m d)) := by
  rw [held_sub_split _ S6_sub, held_S6, V1_ne m d main_arg0 (by decide) (by decide) (by decide), V1_ne m d main_arg1 (by decide) (by decide) (by decide),
    V1_ne m d main_arg2 (by decide) (by decide) (by decide), V1_ne m d main_arg3 (by decide) (by decide) (by decide),
    V1_ne m d main_v3_0 (by decide) (by decide) (by decide), V1_ne m d main_v3_1 (by decide) (by decide) (by decide)]
  iintro ⟨⟨H0, H1, H2, H3, H4, H5⟩, Hr⟩
  isplitr [Hr]
  · isplitr [H4 H5]
    · isplitl [H0]; · iexact H0
      isplitl [H1]; · iexact H1
      isplitl [H2]; · iexact H2
      iexact H3
    · isplitl [H4]; · iexact H4
      iexact H5
  · iexact Hr

/-- After it: its results put back with the rest. -/
theorem after_call (d : Dev nD) :
    iprop((readPts m d fullShare ∗ outPts d Finset.univ (GU m d) (GI m d)) ∗ held (SparseCore.T d) (ucRefs τ sig \ S6) (V1 m d))
      ⊢ (held (SparseCore.T d) (ucRefs τ sig) (V2 m d) : sProp 𝕄) := by
  have h1 : V2 m d (at' main_v3_1) = GI m d := Function.update_self _ _ _
  have h0 : V2 m d (at' main_v3_0) = GU m d := by
    unfold V2; rw [Function.update_of_ne (StableHlo.devRef_ne_of_ne (by decide))]; exact Function.update_self _ _ _
  have hr : (held (SparseCore.T d) (ucRefs τ sig \ S6) (V2 m d) : sProp 𝕄) = held (SparseCore.T d) (ucRefs τ sig \ S6) (V1 m d) :=
    held_congr _ fun b hb => by
      have hb := (Finset.mem_sdiff.mp hb).2
      unfold V2
      rw [Function.update_of_ne (fun e => hb (by rw [e]; decide)), Function.update_of_ne (fun e => hb (by rw [e]; decide))]
  rw [held_sub_split _ S6_sub, held_S6, hr, h0, h1, V2_ne m d main_arg0 (by decide) (by decide), V2_ne m d main_arg1 (by decide) (by decide),
    V2_ne m d main_arg2 (by decide) (by decide), V2_ne m d main_arg3 (by decide) (by decide),
    V1_ne m d main_arg0 (by decide) (by decide) (by decide), V1_ne m d main_arg1 (by decide) (by decide) (by decide),
    V1_ne m d main_arg2 (by decide) (by decide) (by decide), V1_ne m d main_arg3 (by decide) (by decide) (by decide)]
  iintro ⟨⟨⟨H0, H1, H2, H3⟩, H4, H5⟩, Hr⟩
  isplitr [Hr]
  · isplitl [H0]; · iexact H0
    isplitl [H1]; · iexact H1
    isplitl [H2]; · iexact H2
    isplitl [H3]; · iexact H3
    isplitl [H4]; · iexact H4
    iexact H5
  · iexact Hr

/-! ## @main -/

/-- What @main leaves the claims: every array of the TensorCore's, at the last valuation. -/
abbrev FIN (d : Dev nD) : sProp 𝕄 := held (SparseCore.T d) (ucRefs τ sig) (V3 m d)

/-- The TensorCore call's segment from the arrays after the SparseCore call to the last valuation. -/
abbrev theReg :=
  reg (V2r m) (V3r m) (fun _ => iprop(emp)) (fun c => V3_out m c) (fun c b h => V3_ne m c b h)

theorem Otc_one (d : Dev nD) : (K (F := F)).Otc d 1 = 0 :=
  Finset.sum_eq_zero fun q _ => if_neg (by have := q.isLt; omega)

theorem hmain [∀ e, Nonempty (Elt F e)] (κ : GSem nD τ sig → ℕ) (d : Dev nD) :
    iprop((K (F := F)).ctx EH (P m) κ (K (F := F)).lev ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from
    Pipeline.unscopedBufs_held d (V0 m d)]
  simp only [main, wp_bind, wp_pure]
  iintro ⟨#Hctx, Hst, ⟨Hb, Hheld, Hts, -⟩, HG⟩
  iapply (wp_hlo_within 𝒱 (SparseCore.T d) none Set.univ (op := opB0) (S := ucRefs τ sig)
    (Pipeline.sub_ucRefs _ (StableHlo.reshape_bufs_sub ..)) (V := V0 m d)) $$ [Hb Hheld]
  · isplitl [Hb] <;> iassumption
  iintro ⟨Hb, Hheld⟩
  rw [wp_ret]; imodintro
  iapply (wp_hlo_within 𝒱 (SparseCore.T d) none Set.univ (op := opB1) (S := ucRefs τ sig)
    (Pipeline.sub_ucRefs _ (StableHlo.reshape_bufs_sub ..)) (V := (opB0 (F := F)).result (V0 m d))) $$ [Hb Hheld]
  · isplitl [Hb] <;> iassumption
  iintro ⟨Hb, Hheld⟩
  rw [wp_ret]; imodintro
  iapply (wp_hlo_within 𝒱 (SparseCore.T d) none Set.univ (op := opB2) (S := ucRefs τ sig)
    (Pipeline.sub_ucRefs _ (StableHlo.reshape_bufs_sub ..)) (V := (opB1 (F := F)).result ((opB0 (F := F)).result (V0 m d)))) $$ [Hb Hheld]
  · isplitl [Hb] <;> iassumption
  iintro ⟨Hb, Hheld⟩
  rw [wp_ret]; imodintro
  -- the SparseCore call
  ihave Hh := (show (held (SparseCore.T d) (ucRefs τ sig) ((opB2 (F := F)).result ((opB1 (F := F)).result ((opB0 (F := F)).result (V0 m d)))) : sProp 𝕄)
    ⊢ _ from before_call m d) $$ Hheld
  icases Hh with ⟨Hops, Hrest⟩
  iapply ((K (F := F)).wp_run (D (F := F)) 𝒱 (EH := EH) (P := P m) κ d 0) $$ [Hst Hops Hb Hrest Hts HG]
  isplitr; · iexact Hctx
  isplitl [Hst]; · iexact Hst
  isplitl [Hops]
  · rw [st0_eq]; iexact Hops
  iintro ⟨Hst, Hdn⟩
  ihave Hdn' := (Entails.of_eq (dn0_eq m d)) $$ Hdn
  ihave Hheld := (after_call m d) $$ [Hdn' Hrest]
  · isplitl [Hdn'] <;> iassumption
  -- the TensorCore call
  ihave Hlev := (SparseCore.Cfg.ctx_levAts (K := K (F := F)) κ) $$ Hctx
  unfold SparseCore.Cfg.tcSt
  icases Hst with ⟨⟨%W, %hW, HO⟩, Hcells⟩
  rw [show (0 : Fin 1).val + 1 = 1 from rfl, Otc_one]
  iapply ((K (F := F)).wp_liftProg (D (F := F)) 𝒱 (SparseCore.T d) Set.univ none
    (.op (.customCall (Pipeline.entry 0) ()) fun x => .ret x) _)
  iapply (Pipeline.RegionSeg.wp (pcfgs (F := F)) adm (pdats (V2r m)) (none : HIx 1) pin_inj EP defs₀ 𝒱₀ (K (F := F)).L (K (F := F)).lev
    (theReg m) d none (fun u hu => nomatch hu) (fun x => .ret x) _)
  rw [show (theReg m).pre d = iprop(unscopedBufs d (V2r m d) ∗ emp ∗ owesE (F := F) d) from rfl,
    show (theReg m).post d = iprop(unscopedBufs d (V3r m d) ∗ emp ∗ owesE (F := F) d) from rfl]
  isplitl [Hts Hcells]
  · iintro ⟨Hb, Hub, -, %W', %hW', HO⟩
    rw [wp_ret]; imodintro; imodintro
    isplitl [HO Hcells]
    · isplitl [HO]
      · iexists W'; isplitr; · ipureintro; exact hW'
        iexact HO
      iexact Hcells
    isplitl [Hub]
    · iapply (Entails.of_eq (Pipeline.unscopedBufs_held d (V3 m d))); iexact Hub
    isplitl [Hb] <;> iassumption
  isplitl [Hb]; · iexact Hb
  isplitl [Hheld HO]
  · isplitl [Hheld]
    · iapply (Entails.of_eq (Pipeline.unscopedBufs_held d (V2 m d)).symm); iexact Hheld
    isplitr; · iempintro
    iexists W; isplitr; · ipureintro; exact hW
    iexact HO
  isplitr; · iexact Hlev
  iexact HG

/-! ## The end of the run -/

/-- What the claims read of device `d`'s final state: every array of the TensorCore's at the last valuation. -/
def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (st := s') (c := d) (qs := fun _ => fullShare) (F := V3 m d) (ucRefs τ sig)) $$ [HSI H]
  · isplitl [HSI]; · iexact HSI
    iexact H
  ipureintro; exact h

/-- The result array the program ends with. -/
def result (d : Dev nD) : Buf (Elt F) ((d : Thread nD τ).loc main_v4) := tower (V2r m) d

/-- The final states: the result at its value, the arguments unchanged, every semaphore at zero. -/
def QC : PUnit × MemSt nD τ sig (Elt F) → Prop := fun r => (∀ c : Dev nD,
    r.2.mem ((c : Thread nD τ).loc main_v4) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) ∧ r.2.sem = fun _ => 0

/-- An array no statement writes ends as it was at launch. -/
theorem kept (d : Dev nD) (b : Ref sig .tc) (h : b ∉ ([main_v0, main_v1, main_v2, main_v3_0, main_v3_1, main_v4] : List (Ref sig .tc))) :
    V3 m d (at' b) = m ((d : Thread nD τ).loc b) := by
  simp only [List.mem_cons, List.not_mem_nil, or_false, not_or] at h
  obtain ⟨h0, h1, h2, h3, h4, h5⟩ := h
  rw [V3_ne m d b h5, V2_ne m d b h3 h4, V1_ne m d b h0 h1 h2]

theorem fq_kept (d : Dev nD) (s' : Phys nD τ sig (Elt F)) (h : fq m d s') (b : Ref sig .tc)
    (hb : b ∉ ([main_v0, main_v1, main_v2, main_v3_0, main_v3_1, main_v4] : List (Ref sig .tc))) (hu : at' b ∈ ucRefs τ sig) :
    s'.mem.mem ((d : Thread nD τ).loc b) = m ((d : Thread nD τ).loc b) :=
  (h _ hu).trans (kept m d b hb)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m)
    (fun s' h hz => ⟨fun c => ⟨(h c (at' main_v4) (by decide)).trans (V3_out m c),
      fq_kept m c s' (h c) _ (by decide) (by decide), fq_kept m c s' (h c) _ (by decide) (by decide), fq_kept m c s' (h c) _ (by decide) (by decide),
      fq_kept m c s' (h c) _ (by decide) (by decide), fq_kept m c s' (h c) _ (by decide) (by decide), fq_kept m c s' (h c) _ (by decide) (by decide),
      fq_kept m c s' (h c) _ (by decide) (by decide), fq_kept m c s' (h c) _ (by decide) (by decide), fq_kept m c s' (h c) _ (by decide) (by decide),
      fq_kept m c s' (h c) _ (by decide) (by decide)⟩, hz⟩)

end Cert.Proof.TwoTower
-- ==== Proof.Pre.lean ====
/-
  THE PRECONDITION READ BACK, and the two frames of the kernel: identifiers that the printed predicate accepts are row
  numbers of their tables, which is all the run asks of the launch memory.
-/
module

public import proofs.«01_k».proof.Defs
public import proofs.«01_k».proof.Proof.Gen.Kernel
public import proofs.«01_k».proof.Proof.Gen.Pre_ids_in_range
public import proofs.«01_k».proof.Proof.Main
public import Idealize.ShloMosaic.Lib.ReduceAll
public import Idealize.ShloMosaic.Lib.WordCmp

@[expose] public section

noncomputable section

namespace Cert.Proof.TwoTower

open Cert.KernelIdeal Cert.KernelIdeal.Gen

open Idealize.ShloMosaic Idealize.ShloMosaic.ValueIdx Idealize.ShloMosaic.TcCoe Idealize.SL.Sem

variable {F : FTy → Type} [FloatOps F]

/-- A word that is at least zero and below 100000 when read signed is below 100000 when read unsigned. -/
theorem word_in_range (v : BitVec 32) (h0 : IntOp.cmpi .sge v 0#32 = 1#1) (h1 : IntOp.cmpi .slt v 100000#32 = 1#1) : v.toNat < 100000 := by
  have one_iff (p : Bool) : (BitVec.ofBool p = 1#1) ↔ p = true := by cases p <;> decide
  simp only [IntOp.cmpi, one_iff, BitVec.sle_eq_decide, BitVec.slt_eq_decide, decide_eq_true_eq, BitVec.toInt_eq_toNat_cond,
    BitVec.toNat_ofNat, Nat.reducePow, Nat.reduceMod] at h0 h1
  omega

/-- The printed predicate holds only of identifiers below 100000, in both lists. -/
theorem ids_of_pre (a0 a1 : IVec S4096 32) (a2 a3 : FVec F S100000x128 .f32) (a4 : FVec F S256x512 .f32) (a5 : FVec F S512 .f32)
    (a6 : FVec F S512x256 .f32) (a7 : FVec F S256 .f32) (a8 : FVec F S256x128 .f32) (a9 : FVec F S128 .f32)
    (h : Cert.Pre_ids_in_range.fn a0 a1 a2 a3 a4 a5 a6 a7 a8 a9 = fun _ => 1#1) (j : S4096.Idx) :
    (a0 j).toNat < 100000 ∧ (a1 j).toNat < 100000 := by
  haveI : Subsingleton Cert.Pre_ids_in_range.S_.Idx := ⟨fun a b => funext fun k => k.elim0⟩
  have e := congrFun h ix0
  unfold Cert.Pre_ids_in_range.fn at e
  obtain ⟨e, e4⟩ := IntOp.andi_eq_one.1 e
  obtain ⟨e, e3⟩ := IntOp.andi_eq_one.1 e
  obtain ⟨e1, e2⟩ := IntOp.andi_eq_one.1 e
  exact ⟨word_in_range _ (Host.reduce_andi_all _ _ _ _ _ e1 j) (Host.reduce_andi_all _ _ _ _ _ e2 j),
    word_in_range _ (Host.reduce_andi_all _ _ _ _ _ e3 j) (Host.reduce_andi_all _ _ _ _ _ e4 j)⟩

/-- So the precondition of the claims about the idealized kernel gives what its run asks. -/
theorem ok_ideal (m : (ℓ : Loc nD τ sig) → Buf (Elt Ideal) ℓ) (h : Cert.Pre_KernelIdeal m) : PreOK m :=
  fun d j => ids_of_pre _ _ _ _ _ _ _ _ _ _ (h d) j

/-- `Cert.quiescent_KernelIdeal` (Defs.lean). -/
theorem frame_ideal : Cert.quiescent_KernelIdeal := fun m ρ hpre =>
  (θ_run Cert.KernelIdeal.defs _ _).mono (fun _ h => ⟨fun c => (h.1 c).2, h.2⟩) (run_main (F := Ideal) m ρ (ok_ideal m hpre))

/-- The two programs' kernels have the same bodies: label by label, on each kind of processor. -/
theorem bodies_eq : Cert.Kernel.defs₀ (F := Bits) = Cert.KernelIdeal.defs₀ (F := Bits) := by
  funext p ℓ a
  match p, ℓ, a with
  | .scVector c s, 0, _ => rfl
  | .scVector c s, 1, _ => rfl
  | .tc, 0, _ => rfl
  | .tc, 1, (t, s) => rfl
  | .scScalar c, 0, _ => rfl
  | .scScalar c, 1, _ => rfl

/-- So they have the same tables of procedures. -/
theorem table_eq : Cert.Kernel.defs (F := Bits) = Cert.KernelIdeal.defs (F := Bits) :=
  congrArg (fun D => (Cert.KernelIdeal.sc (F := Bits)).defs (Pipeline.defs Cert.KernelIdeal.pcfgs D)) bodies_eq

/-- `Cert.quiescent_Kernel` (Defs.lean): the same text run over the machine's words. -/
theorem frame_kernel : Cert.quiescent_Kernel := by
  intro m ρ hpre
  rw [table_eq]
  exact (θ_run Cert.KernelIdeal.defs Cert.KernelIdeal.threads ⟨m, fun _ => 0, ρ⟩).mono
    (fun r (h : QC m r) => (⟨fun c => (h.1 c).2, h.2⟩ : (∀ c, _) ∧ r.2.sem = fun _ => 0))
    (run_main (F := Bits) m ρ fun d j => ids_of_pre _ _ _ _ _ _ _ _ _ _ (hpre d) j)

end Cert.Proof.TwoTower

end
-- ==== Proof.Net.lean ====
/-
  THE NETWORK OVER THE EXTENDED REALS, ONE ROW AT A TIME: the function that both programs compute of a user row, an item row
  and the six parameter arrays, and the statement that the TensorCore kernel's block computes it on each of its rows.
-/
module

public import proofs.«01_k».proof.Proof.Mlp
public import Idealize.ShloMosaic.Lib.Pointwise

@[expose] public section

noncomputable section

namespace Cert.Proof.TwoTower

open Cert.KernelIdeal Cert.KernelIdeal.Gen

open Idealize.ShloMosaic

/-- The first layer of one row: the user's 128 entries meet the upper half of the weights, the item's 128 the lower half. -/
def layer0 (x y : Fin 128 → EReal) (w : S256x512.Idx → EReal) (b : Fin 512 → EReal) (l : Fin 512) : EReal :=
  max (((∑ k : Fin 128, x k * w (ix2 ⟨k.val, by omega⟩ l)) + ∑ k : Fin 128, y k * w (ix2 ⟨128 + k.val, by omega⟩ l)) + b l) 0

/-- Each later layer of one row: a product with the weights, the bias, and the negative part cut off. -/
def layer {n p : Nat} (h : Fin n → EReal) (w : (⟨2, ![n, p]⟩ : Shape).Idx → EReal) (b : Fin p → EReal) (j : Fin p) : EReal :=
  max ((∑ l : Fin n, h l * w (ix2 l j)) + b j) 0

/-- The three layers of one row. -/
def net (x y : Fin 128 → EReal) (w0 : S256x512.Idx → EReal) (b0 : Fin 512 → EReal) (w1 : S512x256.Idx → EReal) (b1 : Fin 256 → EReal)
    (w2 : S256x128.Idx → EReal) (b2 : Fin 128 → EReal) : Fin 128 → EReal :=
  layer (layer (layer0 x y w0 b0) w1 b1) w2 b2

set_option maxRecDepth 16384 in
/-- The kernel's block computes the network on each of its 2048 rows. -/
theorem mlpBlk_row (u g : Vec Ideal S2048x128 .f32) (w0 : Vec Ideal S256x512 .f32) (b0 : Vec Ideal S1x512 .f32) (w1 : Vec Ideal S512x256 .f32)
    (b1 : Vec Ideal S1x256 .f32) (w2 : Vec Ideal S256x128 .f32) (b2 : Vec Ideal S1x128 .f32) (r : Fin 2048) (c : Fin 128) :
    mlpBlk u g w0 b0 w1 b1 w2 b2 (ix2 r c)
      = net (fun k => u (ix2 r k)) (fun k => g (ix2 r k)) w0 (fun l => b0 (ix2 0 l)) w1 (fun l => b1 (ix2 0 l)) w2 (fun l => b2 (ix2 0 l)) c := by
  pointwise [mlpBlk, k1_pay1, k1_pay2, k1_pay3, net, layer, layer0]

end Cert.Proof.TwoTower

end
-- ==== Proof.KernelValue.lean ====
/-
  THE KERNEL'S VALUE. The two blocks the TensorCore call writes back cover its result array, each row the network on the same row
  of the two gathered arrays; the three reshapes before it only give the biases a leading axis of one.
-/
module

public import proofs.«01_k».proof.Proof.Main
public import proofs.«01_k».proof.Proof.Net
public import Idealize.ShloMosaic.Lib.Pipeline.ValueKit

@[expose] public section

noncomputable section

namespace Cert.Proof.TwoTower

open Cert.KernelIdeal Cert.KernelIdeal.Gen

open Idealize.ShloMosaic Idealize.ShloMosaic.TcCoe

/-- The network row by row on the arrays of a valuation. -/
def rowsOf (V : (c : Dev nD) → (b : Ref sig .tc) → Buf (Elt Ideal) ((c : Thread nD τ).loc b)) (c : Dev nD) :
    Buf (Elt Ideal) ((c : Thread nD τ).loc main_v4) := fun j =>
  net (fun k => V c main_v3_0 (ix2 (j 0) k)) (fun k => V c main_v3_1 (ix2 (j 0) k)) (V c main_arg4) (fun l => V c main_v0 (ix2 0 l))
    (V c main_arg6) (fun l => V c main_v1 (ix2 0 l)) (V c main_arg8) (fun l => V c main_v2 (ix2 0 l)) (j 1)

/-- Where the windows stand at a point: the two row windows and the result at row block `t`, the weights and biases whole. -/
theorem index_at : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![t.val, 0] := by decide +kernel

variable (V : (c : Dev nD) → (b : Ref sig .tc) → Buf (Elt Ideal) ((c : Thread nD τ).loc b)) (c : Dev nD) (t : Fin cfg1.N)

/-- The weights' and the biases' blocks are their arrays. -/
theorem blk2 : inBlk V c 2 t = V c main_arg4 := funext fun i => by
  have e := (index_at t).2.2.1
  show V c main_arg4 (((cfg1.win 2).blk t).view.emb i) = _
  blk_ext [e]
theorem blk3 : inBlk V c 3 t = V c main_v0 := funext fun i => by
  have e := (index_at t).2.2.2.1
  show V c main_v0 (((cfg1.win 3).blk t).view.emb i) = _
  blk_ext [e]
theorem blk4 : inBlk V c 4 t = V c main_arg6 := funext fun i => by
  have e := (index_at t).2.2.2.2.1
  show V c main_arg6 (((cfg1.win 4).blk t).view.emb i) = _
  blk_ext [e]
theorem blk5 : inBlk V c 5 t = V c main_v1 := funext fun i => by
  have e := (index_at t).2.2.2.2.2.1
  show V c main_v1 (((cfg1.win 5).blk t).view.emb i) = _
  blk_ext [e]
theorem blk6 : inBlk V c 6 t = V c main_arg8 := funext fun i => by
  have e := (index_at t).2.2.2.2.2.2.1
  show V c main_arg8 (((cfg1.win 6).blk t).view.emb i) = _
  blk_ext [e]
theorem blk7 : inBlk V c 7 t = V c main_v2 := funext fun i => by
  have e := (index_at t).2.2.2.2.2.2.2.1
  show V c main_v2 (((cfg1.win 7).blk t).view.emb i) = _
  blk_ext [e]

/-- The result array after the call. -/
theorem tower_eq : tower V c = rowsOf V c := by
  refine (dat V c).arrAt_eq_of_covers 8 _ (by decide +kernel) fun t _ y => ?_
  obtain ⟨e0, e1, -, -, -, -, -, -, e8⟩ := index_at t
  blk_simp
  idx_vars y
  have h0 (k : Fin 128) : inBlk V c 0 t (ix2 y0 k) = V c main_v3_0 (ix2 ((win1_8.blk t).view.emb (ix2 y0 y1) 0) k) := by
    show V c main_v3_0 (((cfg1.win 0).blk t).view.emb (ix2 y0 k)) = _
    blk_ext [e0, e8]
  have h1 (k : Fin 128) : inBlk V c 1 t (ix2 y0 k) = V c main_v3_1 (ix2 ((win1_8.blk t).view.emb (ix2 y0 y1) 0) k) := by
    show V c main_v3_1 (((cfg1.win 1).blk t).view.emb (ix2 y0 k)) = _
    blk_ext [e1, e8]
  have hc : (win1_8.blk t).view.emb (ix2 y0 y1) 1 = y1 := Fin.ext (by blk_simp [e8])
  show outBlk V c t (ix2 y0 y1) = rowsOf V c ((win1_8.blk t).view.emb (ix2 y0 y1))
  unfold outBlk rowsOf
  rw [mlpBlk_row, blk2, blk3, blk4, blk5, blk6, blk7, funext h0, funext h1, hc]

/-! ## The arrays the call is entered with -/

variable (m : (ℓ : Loc nD τ sig) → Buf (Elt Ideal) ℓ)

/-- An array of the kernel's launch memory. -/
abbrev karr (d : Dev nD) (b : Ref sig .tc) : Buf (Elt Ideal) ((d : Thread nD τ).loc b) := m ((d : Thread nD τ).loc b)

theorem entry_v3_1 (d : Dev nD) : V2r m d main_v3_1 = GI m d := Function.update_self _ _ _
theorem entry_v3_0 (d : Dev nD) : V2r m d main_v3_0 = GU m d := by
  show V2 m d _ = _
  unfold V2
  rw [Function.update_of_ne (StableHlo.devRef_ne_of_ne (by decide))]
  exact Function.update_self _ _ _

/-- An array no statement has written yet. -/
theorem entry_ne (d : Dev nD) (b : Ref sig .tc) (h0 : b ≠ main_v0) (h1 : b ≠ main_v1) (h2 : b ≠ main_v2) (h3 : b ≠ main_v3_0)
    (h4 : b ≠ main_v3_1) : V2r m d b = karr m d b := (V2_ne m d b h3 h4).trans (V1_ne m d b h0 h1 h2)

/-- The biases, each a row of its array. -/
theorem entry_v0 (d : Dev nD) (l : Fin 512) : V2r m d main_v0 (ix2 0 l) = karr m d main_arg5 (ix1 l) := by
  have e : V2r m d main_v0 = shapeCast S1x512 (karr m d main_arg5) shapeCasts_S512_S1x512 := by
    refine (V2_ne m d main_v0 (by decide) (by decide)).trans ?_
    unfold V1
    rw [StableHlo.reshape_result_ne _ _ _ _ _ _ _ (by decide), StableHlo.reshape_result_ne _ _ _ _ _ _ _ (by decide),
      StableHlo.reshape_result]
    rfl
  rw [e]
  pointwise
theorem entry_v1 (d : Dev nD) (l : Fin 256) : V2r m d main_v1 (ix2 0 l) = karr m d main_arg7 (ix1 l) := by
  have e : V2r m d main_v1 = shapeCast S1x256 (karr m d main_arg7) shapeCasts_S256_S1x256 := by
    refine (V2_ne m d main_v1 (by decide) (by decide)).trans ?_
    unfold V1
    rw [StableHlo.reshape_result_ne _ _ _ _ _ _ _ (by decide), StableHlo.reshape_result,
      StableHlo.reshape_result_ne _ _ _ _ _ _ _ (by decide)]
    rfl
  rw [e]
  pointwise
theorem entry_v2 (d : Dev nD) (l : Fin 128) : V2r m d main_v2 (ix2 0 l) = karr m d main_arg9 (ix1 l) := by
  have e : V2r m d main_v2 = shapeCast S1x128 (karr m d main_arg9) shapeCasts_S128_S1x128 := by
    refine (V2_ne m d main_v2 (by decide) (by decide)).trans ?_
    unfold V1
    rw [StableHlo.reshape_result, StableHlo.reshape_result_ne _ _ _ _ _ _ _ (by decide),
      StableHlo.reshape_result_ne _ _ _ _ _ _ _ (by decide)]
    rfl
  rw [e]
  pointwise

/-- THE RESULT, row by row: the network on the two gathered rows. -/
theorem result_row (d : Dev nD) (r : Fin 4096) (c : Fin 128) :
    result m d (ix2 r c) = net (fun k => GU m d (ix2 r k)) (fun k => GI m d (ix2 r k)) (karr m d main_arg4)
      (fun l => karr m d main_arg5 (ix1 l)) (karr m d main_arg6) (fun l => karr m d main_arg7 (ix1 l)) (karr m d main_arg8)
      (fun l => karr m d main_arg9 (ix1 l)) c := by
  unfold result
  rw [tower_eq]
  unfold rowsOf
  rw [entry_v3_0, entry_v3_1, funext (entry_v0 m d), funext (entry_v1 m d), funext (entry_v2 m d),
    entry_ne m d main_arg4 (by decide) (by decide) (by decide) (by decide) (by decide),
    entry_ne m d main_arg6 (by decide) (by decide) (by decide) (by decide) (by decide),
    entry_ne m d main_arg8 (by decide) (by decide) (by decide) (by decide) (by decide)]
  rfl

end Cert.Proof.TwoTower

end
-- ==== Proof.Take.lean ====
/-
  THE REFERENCE'S ROW LOOKUP. `jnp.take` prints as a wrap of negative identifiers, a gather, and a mask that replaces the rows of
  identifiers out of range; on identifiers that name rows of the table none of this does anything and the rows are just gathered.
-/
module

public import proofs.«01_k».proof.Proof.Gen.ReferenceIdeal
public import proofs.«01_k».proof.Proof.Setup
public import Idealize.ShloMosaic.Lib.ReduceAll
public import Idealize.ShloMosaic.Lib.Routing.Ops

@[expose] public section

noncomputable section

namespace Cert.Proof.TwoTower

open Cert.ReferenceIdeal Cert.ReferenceIdeal.Gen

open Idealize.ShloMosaic Idealize.ShloMosaic.ValueIdx

variable {F : FTy → Type} [FloatOps F]

/-- The identifiers as a column, a negative one counted from the table's end. -/
def wrapped (ids : IVec S4096 32) : IVec S4096x1 32 :=
  broadcastInDim S4096x1 ![0] bcast_S4096_S4096x1_0
    (select (cmpi .slt ids (broadcastInDim S4096 ![] bcast_S_S4096 (constantI S_ 32 0#32)))
      (addi ids (broadcastInDim S4096 ![] bcast_S_S4096 (constantI S_ 32 100000#32))) ids)

/-- Which entries of the column name a row of the table. -/
def inTable (col : IVec S4096x1 32) : IVec S4096x1 1 :=
  andi (cmpi .sge col (broadcastInDim S4096x1 ![] bcast_S_S4096x1 (constantI S_ 32 0#32)))
    (cmpi .sle col (broadcastInDim S4096x1 ![0, 1] bcast_S1x1_S4096x1_0_1 (broadcastInDim S1x1 ![1] bcast_S1_S1x1_1 (constantI S1 32 99999#32))))

/-- The lookup as the reference prints it. -/
def taken (table : FVec F S100000x128 .f32) (ids : IVec S4096 32) : FVec F S4096x128 .f32 :=
  select (broadcastInDim S4096x128 ![0] bcast_S4096_S4096x128_0
      (Host.reduce IntOp.andi (inTable (wrapped ids)) (constantI S_ 1 1#1) reducesTo_S4096x1_S4096_d1 h_S_))
    (Host.gather gather_S100000x128_S4096x1_S4096x128_1_0_n_n_0_1_1128 table (wrapped ids))
    (broadcastInDim S4096x128 ![] bcast_S_S4096x128 (constant S_ .f32 0x7FC00000#32))

/-- A word below 100000 is not negative, is at least zero and at most 99999, as the signed comparisons say. -/
theorem word_cmps (v : BitVec 32) (h : v.toNat < 100000) :
    IntOp.cmpi .slt v 0#32 = 0#1 ∧ IntOp.cmpi .sge v 0#32 = 1#1 ∧ IntOp.cmpi .sle v 99999#32 = 1#1 := by
  have zero_iff (p : Bool) : (BitVec.ofBool p = 0#1) ↔ p = false := by cases p <;> decide
  have one_iff (p : Bool) : (BitVec.ofBool p = 1#1) ↔ p = true := by cases p <;> decide
  simp only [IntOp.cmpi, one_iff, zero_iff, BitVec.sle_eq_decide, BitVec.slt_eq_decide, decide_eq_true_eq, decide_eq_false_iff_not,
    BitVec.toInt_eq_toNat_cond, BitVec.toNat_ofNat, Nat.reducePow, Nat.reduceMod]
  omega

variable (table : FVec F S100000x128 .f32) (ids : IVec S4096 32) (hids : ∀ j, (ids j).toNat < 100000)
include hids

/-- On identifiers in range the column is the list itself. -/
theorem wrapped_apply (r : Fin 4096) (c : Fin 1) : wrapped ids (ix2 r c) = ids (ix1 r) := by
  have e : ∀ x : S4096.Idx, x = ix1 r →
      Scalar.select (IntOp.cmpi .slt (ids x) 0#32) (IntOp.addi (ids x) 100000#32) (ids x) = ids (ix1 r) := fun x hx => by
    rw [hx, (word_cmps _ (hids _)).1]
    rfl
  exact e _ ((eq_ix1 _).trans (congrArg ix1 (Fin.ext rfl)))

/-- Every entry of it names a row, -/
theorem inTable_apply (i : S4096x1.Idx) : inTable (wrapped ids) i = 1#1 := by
  obtain ⟨r, c, rfl⟩ : ∃ (r : Fin 4096) (c : Fin 1), i = ix2 r c := ⟨i 0, i 1, eq_ix2 i⟩
  show IntOp.andi (IntOp.cmpi .sge (wrapped ids (ix2 r c)) 0#32) (IntOp.cmpi .sle (wrapped ids (ix2 r c)) 99999#32) = 1#1
  rw [wrapped_apply ids hids, (word_cmps _ (hids _)).2.1, (word_cmps _ (hids _)).2.2]
  rfl

/-- so the lookup is the gathered rows. -/
theorem taken_eq : taken table ids = gathered table ids := by
  funext j
  obtain ⟨r, k, rfl⟩ : ∃ (r : Fin 4096) (k : Fin 128), j = ix2 r k := ⟨j 0, j 1, eq_ix2 j⟩
  have hmask : broadcastInDim S4096x128 ![0] bcast_S4096_S4096x128_0
      (Host.reduce IntOp.andi (inTable (wrapped ids)) (constantI S_ 1 1#1) reducesTo_S4096x1_S4096_d1 h_S_) (ix2 r k) = 1#1 :=
    Host.reduce_andi_one _ _ _ _ _ rfl (inTable_apply ids hids)
  have hrow : wrapped ids (ix2 r 0) = BitVec.ofNat 32 (rowOf (ids (ix1 r))).val := by
    rw [wrapped_apply ids hids, rowOf_val (hids _), BitVec.ofNat_toNat, BitVec.setWidth_eq]
  unfold taken
  rw [select_apply, hmask, select_one]
  exact Routing.gather_row _ rfl rfl rfl rfl rfl table (wrapped ids) r k _ hrow (by decide)

end Cert.Proof.TwoTower

end
-- ==== Proof.RefValue.lean ====
/-
  THE REFERENCE'S VALUE. Its run leaves the composed operations in its result; each row of them is the network on the two looked-up
  rows. The counters of its machine are zero because it has none.
-/
module

public import proofs.«01_k».proof.Defs
public import proofs.«01_k».proof.Proof.Gen.ReferenceIdeal.Run
public import proofs.«01_k».proof.Proof.Take
public import proofs.«01_k».proof.Proof.Net
public import Idealize.ShloMosaic.Lib.Quiescent

@[expose] public section

noncomputable section

namespace Cert.Proof.TwoTower

open Cert.ReferenceIdeal Cert.ReferenceIdeal.Gen

open Idealize.ShloMosaic Idealize.SL.Sem

/-- The reference's network on the two lookups `x` and `y`, with its weights and biases. -/
def refNet (x y : FVec Ideal S4096x128 .f32) (w0 : FVec Ideal S256x512 .f32) (b0 : FVec Ideal S512 .f32) (w1 : FVec Ideal S512x256 .f32)
    (b1 : FVec Ideal S256 .f32) (w2 : FVec Ideal S256x128 .f32) (b2 : FVec Ideal S128 .f32) : FVec Ideal S4096x128 .f32 :=
  maximumf (addf (Host.dotGeneral dot_S4096x256_S256x128_S4096x128_1_0_0_1_n_n none
    (maximumf (addf (Host.dotGeneral dot_S4096x512_S512x256_S4096x256_1_0_0_1_n_n none
      (maximumf (addf (Host.dotGeneral dot_S4096x256_S256x512_S4096x512_1_0_0_1_n_n none
        (concatenate S4096x256 1 [⟨S4096x128, x⟩, ⟨S4096x128, y⟩] concatenates_S4096x128_S4096x128_S4096x256_d1) w0)
        (broadcastInDim S4096x512 ![0, 1] bcast_S1x512_S4096x512_0_1 (broadcastInDim S1x512 ![1] bcast_S512_S1x512_1 b0)))
        (broadcastInDim S4096x512 ![] bcast_S_S4096x512 (constant S_ .f32 0x00000000#32))) w1)
      (broadcastInDim S4096x256 ![0, 1] bcast_S1x256_S4096x256_0_1 (broadcastInDim S1x256 ![1] bcast_S256_S1x256_1 b1)))
      (broadcastInDim S4096x256 ![] bcast_S_S4096x256 (constant S_ .f32 0x00000000#32))) w2)
    (broadcastInDim S4096x128 ![0, 1] bcast_S1x128_S4096x128_0_1 (broadcastInDim S1x128 ![1] bcast_S128_S1x128_1 b2)))
    (broadcastInDim S4096x128 ![] bcast_S_S4096x128 (constant S_ .f32 0x00000000#32))

set_option maxRecDepth 16384 in
/-- Row by row it is the network. -/
theorem refNet_row (x y : FVec Ideal S4096x128 .f32) (w0 : FVec Ideal S256x512 .f32) (b0 : FVec Ideal S512 .f32)
    (w1 : FVec Ideal S512x256 .f32) (b1 : FVec Ideal S256 .f32) (w2 : FVec Ideal S256x128 .f32) (b2 : FVec Ideal S128 .f32)
    (r : Fin 4096) (c : Fin 128) :
    refNet x y w0 b0 w1 b1 w2 b2 (ix2 r c) = net (fun k => x (ix2 r k)) (fun k => y (ix2 r k)) w0 (fun l => b0 (ix1 l)) w1
      (fun l => b1 (ix1 l)) w2 (fun l => b2 (ix1 l)) c := by
  pointwise [refNet, net, layer, layer0]

variable (m : (ℓ : Loc nD τ sig) → Buf (Elt Ideal) ℓ) (ρ : Dev nD → PrngReg)

/-- An array of the reference's launch memory. -/
abbrev arr (c : Dev nD) (b : Ref sig .tc) : Buf (Elt Ideal) ((c.tc : Thread nD τ).loc b) := m ((c.tc : Thread nD τ).loc b)

/-- The result the generated run names, on these two parts. -/
theorem res_eq (c : Dev nD) :
    Value.res_main_v20 m c = refNet (taken (arr m c main_arg2) (arr m c main_arg0)) (taken (arr m c main_arg3) (arr m c main_arg1))
      (arr m c main_arg4) (arr m c main_arg5) (arr m c main_arg6) (arr m c main_arg7) (arr m c main_arg8) (arr m c main_arg9) := by
  unfold Value.res_main_v20
  rfl

/-- The reference's frame, from any memory: it has no semaphore. -/
theorem frame_reference : Cert.quiescent_ReferenceIdeal := fun m ρ _ =>
  (θ_run Cert.ReferenceIdeal.defs _ _).mono (fun r h => ⟨fun c => (h c).2, sem_eq_zero_of_no_sems rfl r.2⟩) (Value.run m ρ)

/-- The same on the memories the precondition allows. -/
theorem frame_reference_pre [Cert.Pre_ids_in_range.Facts] : Cert.quiescent_ReferenceIdeal_pre_ids_in_range := fun m ρ _ =>
  (θ_run Cert.ReferenceIdeal.defs _ _).mono (fun r h => ⟨fun c => (h c).2, sem_eq_zero_of_no_sems rfl r.2⟩) (Value.run m ρ)

end Cert.Proof.TwoTower

end
-- ==== Proof.Algebraic.lean ====
/-
  THE VALUE CLAIM: on memories that agree on the arguments the two programs end with the same result. Both rows are the network on
  the same two gathered rows.
-/
module

public import proofs.«01_k».proof.Proof.Pre
public import proofs.«01_k».proof.Proof.KernelValue
public import proofs.«01_k».proof.Proof.RefValue

@[expose] public section

noncomputable section

namespace Cert.Proof.TwoTower

open Idealize.ShloMosaic Idealize.ShloMosaic.TcCoe Idealize.SL.Sem

/-- The composed operations of the reference, on a kernel's arrays, are the kernel's result. -/
theorem refNet_eq_result (m : (ℓ : Loc Cert.KernelIdeal.nD Cert.KernelIdeal.τ Cert.KernelIdeal.sig) → Buf (Elt Ideal) ℓ) (hm : PreOK m)
    (d : Dev Cert.KernelIdeal.nD) :
    refNet (taken (karr m d Cert.KernelIdeal.main_arg2) (karr m d Cert.KernelIdeal.main_arg0))
      (taken (karr m d Cert.KernelIdeal.main_arg3) (karr m d Cert.KernelIdeal.main_arg1)) (karr m d Cert.KernelIdeal.main_arg4)
      (karr m d Cert.KernelIdeal.main_arg5) (karr m d Cert.KernelIdeal.main_arg6) (karr m d Cert.KernelIdeal.main_arg7)
      (karr m d Cert.KernelIdeal.main_arg8) (karr m d Cert.KernelIdeal.main_arg9) = result m d := by
  rw [taken_eq _ _ fun j => (hm d j).1, taken_eq _ _ fun j => (hm d j).2]
  funext j
  obtain ⟨r, c, rfl⟩ : ∃ (r : Fin 4096) (c : Fin 128), j = ix2 r c := ⟨j 0, j 1, eq_ix2 j⟩
  exact (refNet_row _ _ _ _ _ _ _ _ r c).trans (result_row m d r c).symm

/-- `Cert.algebraic_KernelIdeal_ReferenceIdeal` (Defs.lean). -/
theorem algebraic : Cert.algebraic_KernelIdeal_ReferenceIdeal := fun m ρ m' ρ' hpre hargs => by
  have hm := ok_ideal m hpre
  refine ⟨result m, (θ_run Cert.KernelIdeal.defs _ _).mono (fun _ h => h.1) (run_main (F := Ideal) m ρ hm),
    (θ_run Cert.ReferenceIdeal.defs _ _).mono (fun _ h c => ⟨(h c).1.trans ?_, (h c).2⟩) (Cert.ReferenceIdeal.Value.run m' ρ')⟩
  obtain ⟨h0, h1, h2, h3, h4, h5, h6, h7, h8, h9⟩ := hargs c
  rw [res_eq, arr, arr, arr, arr, arr, arr, arr, arr, arr, arr, h0, h1, h2, h3, h4, h5, h6, h7, h8, h9]
  exact refNet_eq_result m hm c

end Cert.Proof.TwoTower

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Algebraic
public import proofs.«01_k».proof.Proof.Gen.Pre_ids_in_range
public import Idealize.ShloMosaic.Adequacy
public import Idealize.ShloMosaic.Init

@[expose] public section

noncomputable section

namespace Cert.Proof

open Idealize.ShloMosaic Idealize.SL.Sem Cert.Kernel Cert.Proof.TwoTower

theorem claim : Cert.Claim := ⟨Cert.Kernel.Gen.facts, Cert.KernelIdeal.Gen.facts, Cert.ReferenceIdeal.Gen.facts, Cert.Pre_ids_in_range.Gen.facts,
  frame_kernel, frame_ideal, frame_reference, frame_reference_pre, trivial, algebraic⟩

end Cert.Proof

end
